-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_latitudes [hPre_finite_latitudes : Cert.Pre_finite_latitudes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_latitudes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_latitudes [hPre_finite_latitudes : Cert.Pre_finite_latitudes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_latitudes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_latitudes [hKernelIdeal : Cert.KernelIdeal.Facts] [hPre_finite_latitudes : Cert.Pre_finite_latitudes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_latitudes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_latitudes [hReferenceIdeal : Cert.ReferenceIdeal.Facts] [hPre_finite_latitudes : Cert.Pre_finite_latitudes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_latitudes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_latitudes [hKernelIdeal : Cert.KernelIdeal.Facts] [hReferenceIdeal : Cert.ReferenceIdeal.Facts] [hPre_finite_latitudes : Cert.Pre_finite_latitudes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_latitudes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v88)) (v2 : (c : Dev Cert.KernelIdeal.nD) → Buf (Elt Ideal) ((c.tc : Thread Cert.KernelIdeal.nD Cert.KernelIdeal.τ).loc Cert.KernelIdeal.main_v117)) (v3 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v88) = v1 c
          ∧ r.2.mem ((c.tc : Thread Cert.KernelIdeal.nD Cert.KernelIdeal.τ).loc Cert.KernelIdeal.main_v117) = v2 c
          ∧ r.2.mem ((c.tc : Thread Cert.KernelIdeal.nD Cert.KernelIdeal.τ).loc Cert.KernelIdeal.main_v146) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v297) = v0 c
          ∧ r.2.mem ((c.tc : Thread Cert.ReferenceIdeal.nD Cert.ReferenceIdeal.τ).loc Cert.ReferenceIdeal.main_v321) = v1 c
          ∧ r.2.mem ((c.tc : Thread Cert.ReferenceIdeal.nD Cert.ReferenceIdeal.τ).loc Cert.ReferenceIdeal.main_v369) = v2 c
          ∧ r.2.mem ((c.tc : Thread Cert.ReferenceIdeal.nD Cert.ReferenceIdeal.τ).loc Cert.ReferenceIdeal.main_v345) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_latitudes : Cert.Pre_finite_latitudes.Facts),
    quiescent_Kernel (hKernel := hKernel)
    ∧ quiescent_KernelIdeal (hKernelIdeal := hKernelIdeal)
    ∧ quiescent_KernelIdeal_pre_finite_latitudes (hKernelIdeal := hKernelIdeal) (hPre_finite_latitudes := hPre_finite_latitudes)
    ∧ quiescent_ReferenceIdeal (hReferenceIdeal := hReferenceIdeal)
    ∧ quiescent_ReferenceIdeal_pre_finite_latitudes (hReferenceIdeal := hReferenceIdeal) (hPre_finite_latitudes := hPre_finite_latitudes)
    ∧ preserves_Kernel_KernelIdeal
    ∧ algebraic_KernelIdeal_ReferenceIdeal_pre_finite_latitudes (hKernelIdeal := hKernelIdeal) (hReferenceIdeal := hReferenceIdeal) (hPre_finite_latitudes := hPre_finite_latitudes)
-- ==== Pre_finite_latitudes.lean ====
abbrev S1000000x4 : Shape := ⟨2, ![1000000, 4]⟩
abbrev S7 : Shape := ⟨1, ![7]⟩
abbrev S1000000x1 : Shape := ⟨2, ![1000000, 1]⟩
abbrev S1000000 : Shape := ⟨1, ![1000000]⟩
abbrev S_ : Shape := ⟨0, ![]⟩
abbrev S1 : Shape := ⟨1, ![1]⟩

class Facts : Prop where
  slices_S1000000x4_S1000000x1_0_0 : S1000000x4.Slices ![0, 0] S1000000x1
  shapeCasts_S1000000x1_S1000000 : S1000000x1.ShapeCasts S1000000
  bcast_S_S1000000 : S_.BroadcastsInDim S1000000 (![] : Fin 0 → Fin S1000000.rank)
  slices_S7_S1_0 : S7.Slices ![0] S1
  shapeCasts_S1_S_ : S1.ShapeCasts S_

variable [Facts]

def fn {F : FTy → Type} [FloatOps F] (main_arg0 : FVec F S1000000x4 .f32) (main_arg1 : FVec F S7 .f32) : IVec S1000000 1 :=
  let main_v0 : FVec F S1000000x1 .f32 := (extractStridedSlice S1000000x1 ![0, 0] · slices_S1000000x4_S1000000x1_0_0) main_arg0
  let main_v1 : FVec F S1000000 .f32 := shapeCast S1000000 main_v0 shapeCasts_S1000000x1_S1000000
  let main_v2 : FVec F S1000000 .f32 := Host.absf main_v1
  let main_cst : FVec F S_ .f32 := constant S_ .f32 0x7F800000#32
  let main_v3 : FVec F S1000000 .f32 := broadcastInDim S1000000 ![] bcast_S_S1000000 main_cst
  let main_v4 : IVec S1000000 1 := cmpf .olt main_v2 main_v3
  let main_v5 : FVec F S1 .f32 := (extractStridedSlice S1 ![0] · slices_S7_S1_0) main_arg1
  let main_v6 : FVec F S_ .f32 := shapeCast S_ main_v5 shapeCasts_S1_S_
  let main_v7 : FVec F S_ .f32 := Host.absf main_v6
  let main_cst_0 : FVec F S_ .f32 := constant S_ .f32 0x7F800000#32
  let main_v8 : IVec S_ 1 := cmpf .olt main_v7 main_cst_0
  let main_v9 : IVec S1000000 1 := broadcastInDim S1000000 ![] bcast_S_S1000000 main_v8
  let main_v10 : IVec S1000000 1 := andi main_v4 main_v9
  main_v10
-- ==== Kernel.lean ====
abbrev S1000000x4 : Shape := ⟨2, ![1000000, 4]⟩
abbrev S7 : Shape := ⟨1, ![7]⟩
abbrev S_ : Shape := ⟨0, ![]⟩
abbrev S1048576 : Shape := ⟨1, ![1048576]⟩
abbrev S1000000x1 : Shape := ⟨2, ![1000000, 1]⟩
abbrev S1000000 : Shape := ⟨1, ![1000000]⟩
abbrev S1 : Shape := ⟨1, ![1]⟩
abbrev S8192x128 : Shape := ⟨2, ![8192, 128]⟩
abbrev S1x8 : Shape := ⟨2, ![1, 8]⟩
abbrev S2 : Shape := ⟨1, ![2]⟩
abbrev S1024x128 : Shape := ⟨2, ![1024, 128]⟩
abbrev S1x1 : Shape := ⟨2, ![1, 1]⟩
abbrev S2049x2049 : Shape := ⟨2, ![2049, 2049]⟩
abbrev S1048576x1 : Shape := ⟨2, ![1048576, 1]⟩
abbrev S1048576x2 : Shape := ⟨2, ![1048576, 2]⟩
abbrev S2048x2048 : Shape := ⟨2, ![2048, 2048]⟩

abbrev nBuf : Space → Nat
  | .hbm => 225
  | .vmem => 9
  | .smem => 1
  | _ => 0

abbrev hbmTy0_0 (i : Nat) : BufTy := match i % 128 with
  | 0 => ⟨S1000000x4, .f32⟩
  | 1 => ⟨S7, .f32⟩
  | 2 => ⟨S_, .f32⟩
  | 3 => ⟨S1048576, .f32⟩
  | 4 => ⟨S1000000x1, .f32⟩
  | 5 => ⟨S1000000, .f32⟩
  | 6 => ⟨S_, .i32⟩
  | 7 => ⟨S1, .i32⟩
  | 8 => ⟨S1048576, .f32⟩
  | 9 => ⟨S8192x128, .f32⟩
  | 10 => ⟨S_, .f32⟩
  | 11 => ⟨S1048576, .f32⟩
  | 12 => ⟨S1000000x1, .f32⟩
  | 13 => ⟨S1000000, .f32⟩
  | 14 => ⟨S_, .i32⟩
  | 15 => ⟨S1, .i32⟩
  | 16 => ⟨S1048576, .f32⟩
  | 17 => ⟨S8192x128, .f32⟩
  | 18 => ⟨S_, .f32⟩
  | 19 => ⟨S1048576, .f32⟩
  | 20 => ⟨S1000000x1, .f32⟩
  | 21 => ⟨S1000000, .f32⟩
  | 22 => ⟨S_, .i32⟩
  | 23 => ⟨S1, .i32⟩
  | 24 => ⟨S1048576, .f32⟩
  | 25 => ⟨S8192x128, .f32⟩
  | 26 => ⟨S_, .f32⟩
  | 27 => ⟨S1048576, .f32⟩
  | 28 => ⟨S1000000x1, .f32⟩
  | 29 => ⟨S1000000, .f32⟩
  | 30 => ⟨S_, .i32⟩
  | 31 => ⟨S1, .i32⟩
  | 32 => ⟨S1048576, .f32⟩
  | 33 => ⟨S_, .f32⟩
  | 34 => ⟨S1x8, .f32⟩
  | 35 => ⟨S_, .i32⟩
  | 36 => ⟨S1, .i32⟩
  | 37 => ⟨S_, .i32⟩
  | 38 => ⟨S1, .i32⟩
  | 39 => ⟨S2, .i32⟩
  | 40 => ⟨S1x8, .f32⟩
  | 41 => ⟨S_, .i32⟩
  | 42 => ⟨S1, .i32⟩
  | 43 => ⟨S8192x128, .i32⟩
  | 44 => ⟨S1048576, .i32⟩
  | 45 => ⟨S_, .i32⟩
  | 46 => ⟨S1048576, .i32⟩
  | 47 => ⟨S1048576, .i1⟩
  | 48 => ⟨S_, .i32⟩
  | 49 => ⟨S1048576, .i32⟩
  | 50 => ⟨S1048576, .i1⟩
  | 51 => ⟨S1048576, .i1⟩
  | 52 => ⟨S_, .i32⟩
  | 53 => ⟨S1048576, .i32⟩
  | 54 => ⟨S1048576, .i32⟩
  | 55 => ⟨S_, .i32⟩
  | 56 => ⟨S1048576, .i32⟩
  | 57 => ⟨S1048576, .i32⟩
  | 58 => ⟨S_, .i32⟩
  | 59 => ⟨S_, .i32⟩
  | 60 => ⟨S1048576, .i32⟩
  | 61 => ⟨S1048576, .i32⟩
  | 62 => ⟨S_, .i32⟩
  | 63 => ⟨S1048576, .i32⟩
  | 64 => ⟨S1048576, .i32⟩
  | 65 => ⟨S_, .i32⟩
  | 66 => ⟨S_, .i32⟩
  | 67 => ⟨S1048576, .i32⟩
  | 68 => ⟨S1048576, .i32⟩
  | 69 => ⟨S_, .f32⟩
  | 70 => ⟨S2049x2049, .f32⟩
  | 71 => ⟨S_, .i32⟩
  | 72 => ⟨S1048576, .i32⟩
  | 73 => ⟨S1048576, .i1⟩
  | 74 => ⟨S_, .i32⟩
  | 75 => ⟨S1048576, .i32⟩
  | 76 => ⟨S1048576, .i32⟩
  | 77 => ⟨S1048576, .i32⟩
  | 78 => ⟨S_, .i32⟩
  | 79 => ⟨S1048576, .i32⟩
  | 80 => ⟨S1048576, .i1⟩
  | 81 => ⟨S_, .i32⟩
  | 82 => ⟨S1048576, .i32⟩
  | 83 => ⟨S1048576, .i32⟩
  | 84 => ⟨S1048576, .i32⟩
  | 85 => ⟨S1048576x1, .i32⟩
  | 86 => ⟨S1048576x1, .i32⟩
  | 87 => ⟨S1048576x2, .i32⟩
  | 88 => ⟨S2049x2049, .f32⟩
  | 89 => ⟨S2048x2048, .f32⟩
  | 90 => ⟨S_, .i32⟩
  | 91 => ⟨S1048576, .i32⟩
  | 92 => ⟨S1048576, .i1⟩
  | 93 => ⟨S_, .i32⟩
  | 94 => ⟨S1048576, .i32⟩
  | 95 => ⟨S1048576, .i1⟩
  | 96 => ⟨S1048576, .i1⟩
  | 97 => ⟨S_, .i32⟩
  | 98 => ⟨S1048576, .i32⟩
  | 99 => ⟨S1048576, .i32⟩
  | 100 => ⟨S_, .i32⟩
  | 101 => ⟨S1048576, .i32⟩
  | 102 => ⟨S1048576, .i32⟩
  | 103 => ⟨S_, .i32⟩
  | 104 => ⟨S_, .i32⟩
  | 105 => ⟨S1048576, .i32⟩
  | 106 => ⟨S1048576, .i32⟩
  | 107 => ⟨S_, .i32⟩
  | 108 => ⟨S1048576, .i32⟩
  | 109 => ⟨S1048576, .i32⟩
  | 110 => ⟨S_, .i32⟩
  | 111 => ⟨S_, .i32⟩
  | 112 => ⟨S1048576, .i32⟩
  | 113 => ⟨S1048576, .i32⟩
  | 114 => ⟨S_, .f32⟩
  | 115 => ⟨S2049x2049, .f32⟩
  | 116 => ⟨S_, .i32⟩
  | 117 => ⟨S1048576, .i32⟩
  | 118 => ⟨S1048576, .i1⟩
  | 119 => ⟨S_, .i32⟩
  | 120 => ⟨S1048576, .i32⟩
  | 121 => ⟨S1048576, .i32⟩
  | 122 => ⟨S1048576, .i32⟩
  | 123 => ⟨S_, .i32⟩
  | 124 => ⟨S1048576, .i32⟩
  | 125 => ⟨S1048576, .i1⟩
  | 126 => ⟨S_, .i32⟩
  | 127 => ⟨S1048576, .i32⟩
  | _ => ⟨S1000000x4, .f32⟩

abbrev hbmTy0_1 (i : Nat) : BufTy := match i % 128 with
  | 0 => ⟨S1048576, .i32⟩
  | 1 => ⟨S1048576, .i32⟩
  | 2 => ⟨S1048576x1, .i32⟩
  | 3 => ⟨S1048576x1, .i32⟩
  | 4 => ⟨S1048576x2, .i32⟩
  | 5 => ⟨S2049x2049, .f32⟩
  | 6 => ⟨S2048x2048, .f32⟩
  | 7 => ⟨S_, .i32⟩
  | 8 => ⟨S1048576, .i32⟩
  | 9 => ⟨S1048576, .i1⟩
  | 10 => ⟨S_, .i32⟩
  | 11 => ⟨S1048576, .i32⟩
  | 12 => ⟨S1048576, .i1⟩
  | 13 => ⟨S1048576, .i1⟩
  | 14 => ⟨S_, .i32⟩
  | 15 => ⟨S1048576, .i32⟩
  | 16 => ⟨S1048576, .i32⟩
  | 17 => ⟨S_, .i32⟩
  | 18 => ⟨S1048576, .i32⟩
  | 19 => ⟨S1048576, .i32⟩
  | 20 => ⟨S_, .i32⟩
  | 21 => ⟨S_, .i32⟩
  | 22 => ⟨S1048576, .i32⟩
  | 23 => ⟨S1048576, .i32⟩
  | 24 => ⟨S_, .i32⟩
  | 25 => ⟨S1048576, .i32⟩
  | 26 => ⟨S1048576, .i32⟩
  | 27 => ⟨S_, .i32⟩
  | 28 => ⟨S_, .i32⟩
  | 29 => ⟨S1048576, .i32⟩
  | 30 => ⟨S1048576, .i32⟩
  | 31 => ⟨S_, .f32⟩
  | 32 => ⟨S2049x2049, .f32⟩
  | 33 => ⟨S_, .i32⟩
  | 34 => ⟨S1048576, .i32⟩
  | 35 => ⟨S1048576, .i1⟩
  | 36 => ⟨S_, .i32⟩
  | 37 => ⟨S1048576, .i32⟩
  | 38 => ⟨S1048576, .i32⟩
  | 39 => ⟨S1048576, .i32⟩
  | 40 => ⟨S_, .i32⟩
  | 41 => ⟨S1048576, .i32⟩
  | 42 => ⟨S1048576, .i1⟩
  | 43 => ⟨S_, .i32⟩
  | 44 => ⟨S1048576, .i32⟩
  | 45 => ⟨S1048576, .i32⟩
  | 46 => ⟨S1048576, .i32⟩
  | 47 => ⟨S1048576x1, .i32⟩
  | 48 => ⟨S1048576x1, .i32⟩
  | 49 => ⟨S1048576x2, .i32⟩
  | 50 => ⟨S2049x2049, .f32⟩
  | 51 => ⟨S2048x2048, .f32⟩
  | 52 => ⟨S_, .i32⟩
  | 53 => ⟨S1048576, .i32⟩
  | 54 => ⟨S1048576, .i1⟩
  | 55 => ⟨S_, .i32⟩
  | 56 => ⟨S1048576, .i32⟩
  | 57 => ⟨S1048576, .i1⟩
  | 58 => ⟨S1048576, .i1⟩
  | 59 => ⟨S_, .i32⟩
  | 60 => ⟨S1048576, .i32⟩
  | 61 => ⟨S1048576, .i32⟩
  | 62 => ⟨S_, .i32⟩
  | 63 => ⟨S1048576, .i32⟩
  | 64 => ⟨S1048576, .i32⟩
  | 65 => ⟨S_, .i32⟩
  | 66 => ⟨S_, .i32⟩
  | 67 => ⟨S1048576, .i32⟩
  | 68 => ⟨S1048576, .i32⟩
  | 69 => ⟨S_, .i32⟩
  | 70 => ⟨S1048576, .i32⟩
  | 71 => ⟨S1048576, .i32⟩
  | 72 => ⟨S_, .i32⟩
  | 73 => ⟨S_, .i32⟩
  | 74 => ⟨S1048576, .i32⟩
  | 75 => ⟨S1048576, .i32⟩
  | 76 => ⟨S_, .f32⟩
  | 77 => ⟨S2049x2049, .f32⟩
  | 78 => ⟨S_, .i32⟩
  | 79 => ⟨S1048576, .i32⟩
  | 80 => ⟨S1048576, .i1⟩
  | 81 => ⟨S_, .i32⟩
  | 82 => ⟨S1048576, .i32⟩
  | 83 => ⟨S1048576, .i32⟩
  | 84 => ⟨S1048576, .i32⟩
  | 85 => ⟨S_, .i32⟩
  | 86 => ⟨S1048576, .i32⟩
  | 87 => ⟨S1048576, .i1⟩
  | 88 => ⟨S_, .i32⟩
  | 89 => ⟨S1048576, .i32⟩
  | 90 => ⟨S1048576, .i32⟩
  | 91 => ⟨S1048576, .i32⟩
  | 92 => ⟨S1048576x1, .i32⟩
  | 93 => ⟨S1048576x1, .i32⟩
  | 94 => ⟨S1048576x2, .i32⟩
  | 95 => ⟨S2049x2049, .f32⟩
  | 96 => ⟨S2048x2048, .f32⟩
  | _ => ⟨S1000000x4, .f32⟩

abbrev hbmTy (i : Nat) : BufTy := match i / 128 with
  | 0 => hbmTy0_0 i
  | 1 => hbmTy0_1 i
  | _ => ⟨S1000000x4, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x8, .f32⟩
  | .local _ .vmem, ⟨7, _⟩ => ⟨S1024x128, .i32⟩
  | .local _ .vmem, ⟨8, _⟩ => ⟨S1024x128, .i32⟩
  | .local _ .smem, ⟨0, _⟩ => ⟨S1, .i32⟩
  | _, _ => ⟨S1000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_c_8 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_9 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_10 : Ref sig .tc := ⟨.hbm, 45, rfl⟩
abbrev main_v31 : Ref sig .tc := ⟨.hbm, 46, rfl⟩
abbrev main_v32 : Ref sig .tc := ⟨.hbm, 47, rfl⟩
abbrev main_c_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_12 : Ref sig .tc := ⟨.hbm, 52, rfl⟩
abbrev main_v36 : Ref sig .tc := ⟨.hbm, 53, rfl⟩
abbrev main_v37 : Ref sig .tc := ⟨.hbm, 54, rfl⟩
abbrev main_c_13 : Ref sig .tc := ⟨.hbm, 55, rfl⟩
abbrev main_v38 : Ref sig .tc := ⟨.hbm, 56, rfl⟩
abbrev main_v39 : Ref sig .tc := ⟨.hbm, 57, rfl⟩
abbrev main_c_14 : Ref sig .tc := ⟨.hbm, 58, rfl⟩
abbrev main_call0_v0 : Ref sig .tc := ⟨.hbm, 59, rfl⟩
abbrev main_call0_v1 : Ref sig .tc := ⟨.hbm, 60, rfl⟩
abbrev main_v40 : Ref sig .tc := ⟨.hbm, 61, rfl⟩
abbrev main_c_15 : Ref sig .tc := ⟨.hbm, 62, rfl⟩
abbrev main_v41 : Ref sig .tc := ⟨.hbm, 63, rfl⟩
abbrev main_v42 : Ref sig .tc := ⟨.hbm, 64, rfl⟩
abbrev main_c_16 : Ref sig .tc := ⟨.hbm, 65, rfl⟩
abbrev main_call1_v0 : Ref sig .tc := ⟨.hbm, 66, rfl⟩
abbrev main_call1_v1 : Ref sig .tc := ⟨.hbm, 67, rfl⟩
abbrev main_v43 : Ref sig .tc := ⟨.hbm, 68, rfl⟩
abbrev main_cst_17 : Ref sig .tc := ⟨.hbm, 69, rfl⟩
abbrev main_v44 : Ref sig .tc := ⟨.hbm, 70, rfl⟩
abbrev main_c_18 : Ref sig .tc := ⟨.hbm, 71, rfl⟩
abbrev main_v45 : Ref sig .tc := ⟨.hbm, 72, rfl⟩
abbrev main_v46 : Ref sig .tc := ⟨.hbm, 73, rfl⟩
abbrev main_c_19 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_20 : Ref sig .tc := ⟨.hbm, 78, rfl⟩
abbrev main_v50 : Ref sig .tc := ⟨.hbm, 79, rfl⟩
abbrev main_v51 : Ref sig .tc := ⟨.hbm, 80, rfl⟩
abbrev main_c_21 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_22 : Ref sig .tc := ⟨.hbm, 90, rfl⟩
abbrev main_v60 : Ref sig .tc := ⟨.hbm, 91, rfl⟩
abbrev main_v61 : Ref sig .tc := ⟨.hbm, 92, rfl⟩
abbrev main_c_23 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_24 : Ref sig .tc := ⟨.hbm, 97, rfl⟩
abbrev main_v65 : Ref sig .tc := ⟨.hbm, 98, rfl⟩
abbrev main_v66 : Ref sig .tc := ⟨.hbm, 99, rfl⟩
abbrev main_c_25 : Ref sig .tc := ⟨.hbm, 100, rfl⟩
abbrev main_v67 : Ref sig .tc := ⟨.hbm, 101, rfl⟩
abbrev main_v68 : Ref sig .tc := ⟨.hbm, 102, rfl⟩
abbrev main_c_26 : Ref sig .tc := ⟨.hbm, 103, rfl⟩
abbrev main_call2_v0 : Ref sig .tc := ⟨.hbm, 104, rfl⟩
abbrev main_call2_v1 : Ref sig .tc := ⟨.hbm, 105, rfl⟩
abbrev main_v69 : Ref sig .tc := ⟨.hbm, 106, rfl⟩
abbrev main_c_27 : Ref sig .tc := ⟨.hbm, 107, rfl⟩
abbrev main_v70 : Ref sig .tc := ⟨.hbm, 108, rfl⟩
abbrev main_v71 : Ref sig .tc := ⟨.hbm, 109, rfl⟩
abbrev main_c_28 : Ref sig .tc := ⟨.hbm, 110, rfl⟩
abbrev main_call3_v0 : Ref sig .tc := ⟨.hbm, 111, rfl⟩
abbrev main_call3_v1 : Ref sig .tc := ⟨.hbm, 112, rfl⟩
abbrev main_v72 : Ref sig .tc := ⟨.hbm, 113, rfl⟩
abbrev main_cst_29 : Ref sig .tc := ⟨.hbm, 114, rfl⟩
abbrev main_v73 : Ref sig .tc := ⟨.hbm, 115, rfl⟩
abbrev main_c_30 : Ref sig .tc := ⟨.hbm, 116, rfl⟩
abbrev main_v74 : Ref sig .tc := ⟨.hbm, 117, rfl⟩
abbrev main_v75 : Ref sig .tc := ⟨.hbm, 118, rfl⟩
abbrev main_c_31 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_c_32 : Ref sig .tc := ⟨.hbm, 123, rfl⟩
abbrev main_v79 : Ref sig .tc := ⟨.hbm, 124, rfl⟩
abbrev main_v80 : Ref sig .tc := ⟨.hbm, 125, rfl⟩
abbrev main_c_33 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_c_34 : Ref sig .tc := ⟨.hbm, 135, rfl⟩
abbrev main_v89 : Ref sig .tc := ⟨.hbm, 136, rfl⟩
abbrev main_v90 : Ref sig .tc := ⟨.hbm, 137, rfl⟩
abbrev main_c_35 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_c_36 : Ref sig .tc := ⟨.hbm, 142, rfl⟩
abbrev main_v94 : Ref sig .tc := ⟨.hbm, 143, rfl⟩
abbrev main_v95 : Ref sig .tc := ⟨.hbm, 144, rfl⟩
abbrev main_c_37 : Ref sig .tc := ⟨.hbm, 145, rfl⟩
abbrev main_v96 : Ref sig .tc := ⟨.hbm, 146, rfl⟩
abbrev main_v97 : Ref sig .tc := ⟨.hbm, 147, rfl⟩
abbrev main_c_38 : Ref sig .tc := ⟨.hbm, 148, rfl⟩
abbrev main_call4_v0 : Ref sig .tc := ⟨.hbm, 149, rfl⟩
abbrev main_call4_v1 : Ref sig .tc := ⟨.hbm, 150, rfl⟩
abbrev main_v98 : Ref sig .tc := ⟨.hbm, 151, rfl⟩
abbrev main_c_39 : Ref sig .tc := ⟨.hbm, 152, rfl⟩
abbrev main_v99 : Ref sig .tc := ⟨.hbm, 153, rfl⟩
abbrev main_v100 : Ref sig .tc := ⟨.hbm, 154, rfl⟩
abbrev main_c_40 : Ref sig .tc := ⟨.hbm, 155, rfl⟩
abbrev main_call5_v0 : Ref sig .tc := ⟨.hbm, 156, rfl⟩
abbrev main_call5_v1 : Ref sig .tc := ⟨.hbm, 157, rfl⟩
abbrev main_v101 : Ref sig .tc := ⟨.hbm, 158, rfl⟩
abbrev main_cst_41 : Ref sig .tc := ⟨.hbm, 159, rfl⟩
abbrev main_v102 : Ref sig .tc := ⟨.hbm, 160, rfl⟩
abbrev main_c_42 : Ref sig .tc := ⟨.hbm, 161, rfl⟩
abbrev main_v103 : Ref sig .tc := ⟨.hbm, 162, rfl⟩
abbrev main_v104 : Ref sig .tc := ⟨.hbm, 163, rfl⟩
abbrev main_c_43 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_c_44 : Ref sig .tc := ⟨.hbm, 168, rfl⟩
abbrev main_v108 : Ref sig .tc := ⟨.hbm, 169, rfl⟩
abbrev main_v109 : Ref sig .tc := ⟨.hbm, 170, rfl⟩
abbrev main_c_45 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_c_46 : Ref sig .tc := ⟨.hbm, 180, rfl⟩
abbrev main_v118 : Ref sig .tc := ⟨.hbm, 181, rfl⟩
abbrev main_v119 : Ref sig .tc := ⟨.hbm, 182, rfl⟩
abbrev main_c_47 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_c_48 : Ref sig .tc := ⟨.hbm, 187, rfl⟩
abbrev main_v123 : Ref sig .tc := ⟨.hbm, 188, rfl⟩
abbrev main_v124 : Ref sig .tc := ⟨.hbm, 189, rfl⟩
abbrev main_c_49 : Ref sig .tc := ⟨.hbm, 190, rfl⟩
abbrev main_v125 : Ref sig .tc := ⟨.hbm, 191, rfl⟩
abbrev main_v126 : Ref sig .tc := ⟨.hbm, 192, rfl⟩
abbrev main_c_50 : Ref sig .tc := ⟨.hbm, 193, rfl⟩
abbrev main_call6_v0 : Ref sig .tc := ⟨.hbm, 194, rfl⟩
abbrev main_call6_v1 : Ref sig .tc := ⟨.hbm, 195, rfl⟩
abbrev main_v127 : Ref sig .tc := ⟨.hbm, 196, rfl⟩
abbrev main_c_51 : Ref sig .tc := ⟨.hbm, 197, rfl⟩
abbrev main_v128 : Ref sig .tc := ⟨.hbm, 198, rfl⟩
abbrev main_v129 : Ref sig .tc := ⟨.hbm, 199, rfl⟩
abbrev main_c_52 : Ref sig .tc := ⟨.hbm, 200, rfl⟩
abbrev main_call7_v0 : Ref sig .tc := ⟨.hbm, 201, rfl⟩
abbrev main_call7_v1 : Ref sig .tc := ⟨.hbm, 202, rfl⟩
abbrev main_v130 : Ref sig .tc := ⟨.hbm, 203, rfl⟩
abbrev main_cst_53 : Ref sig .tc := ⟨.hbm, 204, rfl⟩
abbrev main_v131 : Ref sig .tc := ⟨.hbm, 205, rfl⟩
abbrev main_c_54 : Ref sig .tc := ⟨.hbm, 206, rfl⟩
abbrev main_v132 : Ref sig .tc := ⟨.hbm, 207, rfl⟩
abbrev main_v133 : Ref sig .tc := ⟨.hbm, 208, rfl⟩
abbrev main_c_55 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_c_56 : Ref sig .tc := ⟨.hbm, 213, rfl⟩
abbrev main_v137 : Ref sig .tc := ⟨.hbm, 214, rfl⟩
abbrev main_v138 : Ref sig .tc := ⟨.hbm, 215, rfl⟩
abbrev main_c_57 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1000000x4 : Shape := ⟨2, ![1000000, 4]⟩
abbrev S7 : Shape := ⟨1, ![7]⟩
abbrev S1000000x1 : Shape := ⟨2, ![1000000, 1]⟩
abbrev S1000000 : Shape := ⟨1, ![1000000]⟩
abbrev S1 : Shape := ⟨1, ![1]⟩
abbrev S_ : Shape := ⟨0, ![]⟩
abbrev S2049x2049 : Shape := ⟨2, ![2049, 2049]⟩
abbrev S1000000x2 : Shape := ⟨2, ![1000000, 2]⟩
abbrev S2048x2048 : Shape := ⟨2, ![2048, 2048]⟩

abbrev nBuf : Space → Nat
  | .hbm => 535
  | .vmem => 0
  | .smem => 0
  | _ => 0

abbrev hbmTy0_0 (i : Nat) : BufTy := match i % 128 with
  | 0 => ⟨S1000000x4, .f32⟩
  | 1 => ⟨S7, .f32⟩
  | 2 => ⟨S1000000x1, .f32⟩
  | 3 => ⟨S1000000, .f32⟩
  | 4 => ⟨S1000000x1, .f32⟩
  | 5 => ⟨S1000000, .f32⟩
  | 6 => ⟨S1000000x1, .f32⟩
  | 7 => ⟨S1000000, .f32⟩
  | 8 => ⟨S1000000x1, .f32⟩
  | 9 => ⟨S1000000, .f32⟩
  | 10 => ⟨S1, .f32⟩
  | 11 => ⟨S_, .f32⟩
  | 12 => ⟨S1, .f32⟩
  | 13 => ⟨S_, .f32⟩
  | 14 => ⟨S1, .f32⟩
  | 15 => ⟨S_, .f32⟩
  | 16 => ⟨S1, .f32⟩
  | 17 => ⟨S_, .f32⟩
  | 18 => ⟨S1, .f32⟩
  | 19 => ⟨S_, .f32⟩
  | 20 => ⟨S1, .f32⟩
  | 21 => ⟨S_, .f32⟩
  | 22 => ⟨S1, .f32⟩
  | 23 => ⟨S_, .f32⟩
  | 24 => ⟨S_, .f32⟩
  | 25 => ⟨S1000000, .f32⟩
  | 26 => ⟨S1000000, .f32⟩
  | 27 => ⟨S_, .f32⟩
  | 28 => ⟨S1000000, .f32⟩
  | 29 => ⟨S1000000, .f32⟩
  | 30 => ⟨S1000000, .f32⟩
  | 31 => ⟨S1000000, .f32⟩
  | 32 => ⟨S_, .f32⟩
  | 33 => ⟨S1000000, .f32⟩
  | 34 => ⟨S1000000, .f32⟩
  | 35 => ⟨S1000000, .f32⟩
  | 36 => ⟨S_, .f32⟩
  | 37 => ⟨S1000000, .f32⟩
  | 38 => ⟨S1000000, .f32⟩
  | 39 => ⟨S1000000, .f32⟩
  | 40 => ⟨S_, .f32⟩
  | 41 => ⟨S1000000, .f32⟩
  | 42 => ⟨S1000000, .f32⟩
  | 43 => ⟨S1000000, .f32⟩
  | 44 => ⟨S1000000, .f32⟩
  | 45 => ⟨S1000000, .f32⟩
  | 46 => ⟨S1000000, .f32⟩
  | 47 => ⟨S1000000, .f32⟩
  | 48 => ⟨S1000000, .f32⟩
  | 49 => ⟨S1000000, .f32⟩
  | 50 => ⟨S1000000, .f32⟩
  | 51 => ⟨S_, .f32⟩
  | 52 => ⟨S1000000, .f32⟩
  | 53 => ⟨S1000000, .f32⟩
  | 54 => ⟨S1000000, .f32⟩
  | 55 => ⟨S1000000, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S1000000, .f32⟩
  | 83 => ⟨S1000000, .f32⟩
  | 84 => ⟨S1000000, .f32⟩
  | 85 => ⟨S1000000, .f32⟩
  | 86 => ⟨S1000000, .f32⟩
  | 87 => ⟨S1000000, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S1000000, .f32⟩
  | 98 => ⟨S1000000, .f32⟩
  | 99 => ⟨S1000000, .f32⟩
  | 100 => ⟨S1000000, .f32⟩
  | 101 => ⟨S1000000, .f32⟩
  | 102 => ⟨S_, .f32⟩
  | 103 => ⟨S_, .f32⟩
  | 104 => ⟨S1000000, .f32⟩
  | 105 => ⟨S1000000, .f32⟩
  | 106 => ⟨S_, .f32⟩
  | 107 => ⟨S1000000, .f32⟩
  | 108 => ⟨S1000000, .f32⟩
  | 109 => ⟨S1000000, .f32⟩
  | 110 => ⟨S1000000, .f32⟩
  | 111 => ⟨S1000000, .f32⟩
  | 112 => ⟨S1000000, .f32⟩
  | 113 => ⟨S_, .f32⟩
  | 114 => ⟨S1000000, .f32⟩
  | 115 => ⟨S1000000, .f32⟩
  | 116 => ⟨S_, .f32⟩
  | 117 => ⟨S1000000, .f32⟩
  | 118 => ⟨S1000000, .f32⟩
  | 119 => ⟨S1000000, .f32⟩
  | 120 => ⟨S1000000, .f32⟩
  | 121 => ⟨S1000000, .f32⟩
  | 122 => ⟨S1000000, .f32⟩
  | 123 => ⟨S_, .f32⟩
  | 124 => ⟨S_, .f32⟩
  | 125 => ⟨S_, .f32⟩
  | 126 => ⟨S_, .f32⟩
  | 127 => ⟨S_, .f32⟩
  | _ => ⟨S1000000x4, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S1000000, .f32⟩
  | 18 => ⟨S1000000, .f32⟩
  | 19 => ⟨S_, .f32⟩
  | 20 => ⟨S_, .f32⟩
  | 21 => ⟨S_, .f32⟩
  | 22 => ⟨S_, .f32⟩
  | 23 => ⟨S_, .f32⟩
  | 24 => ⟨S1000000, .f32⟩
  | 25 => ⟨S1000000, .f32⟩
  | 26 => ⟨S1000000, .f32⟩
  | 27 => ⟨S_, .f32⟩
  | 28 => ⟨S_, .f32⟩
  | 29 => ⟨S_, .f32⟩
  | 30 => ⟨S_, .f32⟩
  | 31 => ⟨S_, .f32⟩
  | 32 => ⟨S1000000, .f32⟩
  | 33 => ⟨S1000000, .f32⟩
  | 34 => ⟨S1000000, .f32⟩
  | 35 => ⟨S_, .f32⟩
  | 36 => ⟨S_, .f32⟩
  | 37 => ⟨S_, .f32⟩
  | 38 => ⟨S_, .f32⟩
  | 39 => ⟨S_, .f32⟩
  | 40 => ⟨S1000000, .f32⟩
  | 41 => ⟨S1000000, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S1000000, .f32⟩
  | 50 => ⟨S1000000, .f32⟩
  | 51 => ⟨S1000000, .f32⟩
  | 52 => ⟨S_, .f32⟩
  | 53 => ⟨S_, .f32⟩
  | 54 => ⟨S_, .f32⟩
  | 55 => ⟨S_, .f32⟩
  | 56 => ⟨S_, .f32⟩
  | 57 => ⟨S1000000, .f32⟩
  | 58 => ⟨S1000000, .f32⟩
  | 59 => ⟨S1000000, .f32⟩
  | 60 => ⟨S_, .f32⟩
  | 61 => ⟨S_, .f32⟩
  | 62 => ⟨S_, .f32⟩
  | 63 => ⟨S_, .f32⟩
  | 64 => ⟨S_, .f32⟩
  | 65 => ⟨S1000000, .f32⟩
  | 66 => ⟨S1000000, .f32⟩
  | 67 => ⟨S_, .f32⟩
  | 68 => ⟨S_, .f32⟩
  | 69 => ⟨S_, .f32⟩
  | 70 => ⟨S_, .f32⟩
  | 71 => ⟨S_, .f32⟩
  | 72 => ⟨S1000000, .f32⟩
  | 73 => ⟨S1000000, .f32⟩
  | 74 => ⟨S1000000, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S1000000, .f32⟩
  | 83 => ⟨S1000000, .f32⟩
  | 84 => ⟨S1000000, .f32⟩
  | 85 => ⟨S1000000, .f32⟩
  | 86 => ⟨S1000000, .f32⟩
  | 87 => ⟨S1000000, .f32⟩
  | 88 => ⟨S_, .f32⟩
  | 89 => ⟨S1000000, .f32⟩
  | 90 => ⟨S1000000, .i1⟩
  | 91 => ⟨S1000000, .i1⟩
  | 92 => ⟨S1000000, .i1⟩
  | 93 => ⟨S1000000, .i1⟩
  | 94 => ⟨S1000000, .i1⟩
  | 95 => ⟨S_, .f32⟩
  | 96 => ⟨S1000000, .f32⟩
  | 97 => ⟨S1000000, .i1⟩
  | 98 => ⟨S1000000, .f32⟩
  | 99 => ⟨S1000000, .i1⟩
  | 100 => ⟨S1000000, .i1⟩
  | 101 => ⟨S1000000, .f32⟩
  | 102 => ⟨S1000000, .i1⟩
  | 103 => ⟨S1000000, .i1⟩
  | 104 => ⟨S_, .f32⟩
  | 105 => ⟨S1000000, .f32⟩
  | 106 => ⟨S1000000, .i1⟩
  | 107 => ⟨S1000000, .i1⟩
  | 108 => ⟨S1000000, .i1⟩
  | 109 => ⟨S1000000, .i1⟩
  | 110 => ⟨S1000000, .i1⟩
  | 111 => ⟨S_, .f32⟩
  | 112 => ⟨S1000000, .f32⟩
  | 113 => ⟨S1000000, .i1⟩
  | 114 => ⟨S1000000, .f32⟩
  | 115 => ⟨S1000000, .i1⟩
  | 116 => ⟨S1000000, .i1⟩
  | 117 => ⟨S1000000, .f32⟩
  | 118 => ⟨S1000000, .i1⟩
  | 119 => ⟨S1000000, .i1⟩
  | 120 => ⟨S1000000, .f32⟩
  | 121 => ⟨S_, .f32⟩
  | 122 => ⟨S1000000, .f32⟩
  | 123 => ⟨S1000000, .i1⟩
  | 124 => ⟨S_, .f32⟩
  | 125 => ⟨S_, .f32⟩
  | 126 => ⟨S1000000, .f32⟩
  | 127 => ⟨S1000000, .f32⟩
  | _ => ⟨S1000000x4, .f32⟩

abbrev hbmTy0_2 (i : Nat) : BufTy := match i % 128 with
  | 0 => ⟨S_, .f32⟩
  | 1 => ⟨S1000000, .f32⟩
  | 2 => ⟨S1000000, .f32⟩
  | 3 => ⟨S1000000, .f32⟩
  | 4 => ⟨S_, .f32⟩
  | 5 => ⟨S1000000, .f32⟩
  | 6 => ⟨S1000000, .f32⟩
  | 7 => ⟨S_, .f32⟩
  | 8 => ⟨S1000000, .f32⟩
  | 9 => ⟨S1000000, .f32⟩
  | 10 => ⟨S1000000, .f32⟩
  | 11 => ⟨S_, .f32⟩
  | 12 => ⟨S1000000, .f32⟩
  | 13 => ⟨S1000000, .f32⟩
  | 14 => ⟨S1000000, .f32⟩
  | 15 => ⟨S1000000, .f32⟩
  | 16 => ⟨S_, .f32⟩
  | 17 => ⟨S1000000, .f32⟩
  | 18 => ⟨S1000000, .i1⟩
  | 19 => ⟨S_, .f32⟩
  | 20 => ⟨S_, .f32⟩
  | 21 => ⟨S1000000, .f32⟩
  | 22 => ⟨S1000000, .f32⟩
  | 23 => ⟨S_, .f32⟩
  | 24 => ⟨S1000000, .f32⟩
  | 25 => ⟨S1000000, .f32⟩
  | 26 => ⟨S1000000, .f32⟩
  | 27 => ⟨S_, .f32⟩
  | 28 => ⟨S1000000, .f32⟩
  | 29 => ⟨S1000000, .f32⟩
  | 30 => ⟨S_, .f32⟩
  | 31 => ⟨S1000000, .f32⟩
  | 32 => ⟨S1000000, .f32⟩
  | 33 => ⟨S1000000, .f32⟩
  | 34 => ⟨S_, .f32⟩
  | 35 => ⟨S1000000, .f32⟩
  | 36 => ⟨S1000000, .f32⟩
  | 37 => ⟨S1000000, .f32⟩
  | 38 => ⟨S1000000, .f32⟩
  | 39 => ⟨S_, .f32⟩
  | 40 => ⟨S1000000, .f32⟩
  | 41 => ⟨S1000000, .i1⟩
  | 42 => ⟨S_, .f32⟩
  | 43 => ⟨S_, .f32⟩
  | 44 => ⟨S1000000, .f32⟩
  | 45 => ⟨S1000000, .f32⟩
  | 46 => ⟨S_, .f32⟩
  | 47 => ⟨S1000000, .f32⟩
  | 48 => ⟨S1000000, .f32⟩
  | 49 => ⟨S1000000, .f32⟩
  | 50 => ⟨S_, .f32⟩
  | 51 => ⟨S1000000, .f32⟩
  | 52 => ⟨S1000000, .f32⟩
  | 53 => ⟨S_, .f32⟩
  | 54 => ⟨S1000000, .f32⟩
  | 55 => ⟨S1000000, .f32⟩
  | 56 => ⟨S1000000, .f32⟩
  | 57 => ⟨S_, .f32⟩
  | 58 => ⟨S1000000, .f32⟩
  | 59 => ⟨S1000000, .f32⟩
  | 60 => ⟨S1000000, .f32⟩
  | 61 => ⟨S1000000, .f32⟩
  | 62 => ⟨S_, .f32⟩
  | 63 => ⟨S1000000, .f32⟩
  | 64 => ⟨S1000000, .i1⟩
  | 65 => ⟨S_, .f32⟩
  | 66 => ⟨S_, .f32⟩
  | 67 => ⟨S1000000, .f32⟩
  | 68 => ⟨S1000000, .f32⟩
  | 69 => ⟨S_, .f32⟩
  | 70 => ⟨S1000000, .f32⟩
  | 71 => ⟨S1000000, .f32⟩
  | 72 => ⟨S1000000, .f32⟩
  | 73 => ⟨S_, .f32⟩
  | 74 => ⟨S1000000, .f32⟩
  | 75 => ⟨S1000000, .f32⟩
  | 76 => ⟨S_, .f32⟩
  | 77 => ⟨S1000000, .f32⟩
  | 78 => ⟨S1000000, .f32⟩
  | 79 => ⟨S1000000, .f32⟩
  | 80 => ⟨S_, .f32⟩
  | 81 => ⟨S1000000, .f32⟩
  | 82 => ⟨S1000000, .f32⟩
  | 83 => ⟨S1000000, .f32⟩
  | 84 => ⟨S_, .i32⟩
  | 85 => ⟨S_, .i32⟩
  | 86 => ⟨S_, .f32⟩
  | 87 => ⟨S1000000, .f32⟩
  | 88 => ⟨S1000000, .f32⟩
  | 89 => ⟨S_, .f32⟩
  | 90 => ⟨S1000000, .f32⟩
  | 91 => ⟨S1000000, .f32⟩
  | 92 => ⟨S1000000, .i32⟩
  | 93 => ⟨S1000000, .f32⟩
  | 94 => ⟨S_, .i32⟩
  | 95 => ⟨S_, .i32⟩
  | 96 => ⟨S_, .f32⟩
  | 97 => ⟨S1000000, .f32⟩
  | 98 => ⟨S1000000, .f32⟩
  | 99 => ⟨S_, .f32⟩
  | 100 => ⟨S1000000, .f32⟩
  | 101 => ⟨S1000000, .f32⟩
  | 102 => ⟨S1000000, .i32⟩
  | 103 => ⟨S_, .i32⟩
  | 104 => ⟨S_, .i32⟩
  | 105 => ⟨S1000000, .i32⟩
  | 106 => ⟨S1000000, .i32⟩
  | 107 => ⟨S_, .i32⟩
  | 108 => ⟨S_, .i32⟩
  | 109 => ⟨S1000000, .i32⟩
  | 110 => ⟨S1000000, .i32⟩
  | 111 => ⟨S_, .f32⟩
  | 112 => ⟨S2049x2049, .f32⟩
  | 113 => ⟨S_, .i32⟩
  | 114 => ⟨S1000000, .i32⟩
  | 115 => ⟨S1000000, .i1⟩
  | 116 => ⟨S_, .i32⟩
  | 117 => ⟨S1000000, .i32⟩
  | 118 => ⟨S1000000, .i32⟩
  | 119 => ⟨S1000000, .i32⟩
  | 120 => ⟨S_, .i32⟩
  | 121 => ⟨S1000000, .i32⟩
  | 122 => ⟨S1000000, .i1⟩
  | 123 => ⟨S_, .i32⟩
  | 124 => ⟨S1000000, .i32⟩
  | 125 => ⟨S1000000, .i32⟩
  | 126 => ⟨S1000000, .i32⟩
  | 127 => ⟨S1000000x1, .i32⟩
  | _ => ⟨S1000000x4, .f32⟩

abbrev hbmTy0_3 (i : Nat) : BufTy := match i % 128 with
  | 0 => ⟨S1000000x1, .i32⟩
  | 1 => ⟨S1000000x2, .i32⟩
  | 2 => ⟨S2049x2049, .f32⟩
  | 3 => ⟨S2048x2048, .f32⟩
  | 4 => ⟨S1000000, .f32⟩
  | 5 => ⟨S_, .i32⟩
  | 6 => ⟨S_, .i32⟩
  | 7 => ⟨S_, .f32⟩
  | 8 => ⟨S1000000, .f32⟩
  | 9 => ⟨S1000000, .f32⟩
  | 10 => ⟨S_, .f32⟩
  | 11 => ⟨S1000000, .f32⟩
  | 12 => ⟨S1000000, .f32⟩
  | 13 => ⟨S1000000, .i32⟩
  | 14 => ⟨S1000000, .f32⟩
  | 15 => ⟨S_, .i32⟩
  | 16 => ⟨S_, .i32⟩
  | 17 => ⟨S_, .f32⟩
  | 18 => ⟨S1000000, .f32⟩
  | 19 => ⟨S1000000, .f32⟩
  | 20 => ⟨S_, .f32⟩
  | 21 => ⟨S1000000, .f32⟩
  | 22 => ⟨S1000000, .f32⟩
  | 23 => ⟨S1000000, .i32⟩
  | 24 => ⟨S_, .i32⟩
  | 25 => ⟨S_, .i32⟩
  | 26 => ⟨S1000000, .i32⟩
  | 27 => ⟨S1000000, .i32⟩
  | 28 => ⟨S_, .i32⟩
  | 29 => ⟨S_, .i32⟩
  | 30 => ⟨S1000000, .i32⟩
  | 31 => ⟨S1000000, .i32⟩
  | 32 => ⟨S_, .f32⟩
  | 33 => ⟨S2049x2049, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x1, .i32⟩
  | 50 => ⟨S1000000x2, .i32⟩
  | 51 => ⟨S2049x2049, .f32⟩
  | 52 => ⟨S2048x2048, .f32⟩
  | 53 => ⟨S1000000, .f32⟩
  | 54 => ⟨S_, .i32⟩
  | 55 => ⟨S_, .i32⟩
  | 56 => ⟨S_, .f32⟩
  | 57 => ⟨S1000000, .f32⟩
  | 58 => ⟨S1000000, .f32⟩
  | 59 => ⟨S_, .f32⟩
  | 60 => ⟨S1000000, .f32⟩
  | 61 => ⟨S1000000, .f32⟩
  | 62 => ⟨S1000000, .i32⟩
  | 63 => ⟨S1000000, .f32⟩
  | 64 => ⟨S_, .i32⟩
  | 65 => ⟨S_, .i32⟩
  | 66 => ⟨S_, .f32⟩
  | 67 => ⟨S1000000, .f32⟩
  | 68 => ⟨S1000000, .f32⟩
  | 69 => ⟨S_, .f32⟩
  | 70 => ⟨S1000000, .f32⟩
  | 71 => ⟨S1000000, .f32⟩
  | 72 => ⟨S1000000, .i32⟩
  | 73 => ⟨S_, .i32⟩
  | 74 => ⟨S_, .i32⟩
  | 75 => ⟨S1000000, .i32⟩
  | 76 => ⟨S1000000, .i32⟩
  | 77 => ⟨S_, .i32⟩
  | 78 => ⟨S_, .i32⟩
  | 79 => ⟨S1000000, .i32⟩
  | 80 => ⟨S1000000, .i32⟩
  | 81 => ⟨S_, .f32⟩
  | 82 => ⟨S2049x2049, .f32⟩
  | 83 => ⟨S_, .i32⟩
  | 84 => ⟨S1000000, .i32⟩
  | 85 => ⟨S1000000, .i1⟩
  | 86 => ⟨S_, .i32⟩
  | 87 => ⟨S1000000, .i32⟩
  | 88 => ⟨S1000000, .i32⟩
  | 89 => ⟨S1000000, .i32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000x1, .i32⟩
  | 99 => ⟨S1000000x2, .i32⟩
  | 100 => ⟨S2049x2049, .f32⟩
  | 101 => ⟨S2048x2048, .f32⟩
  | 102 => ⟨S1000000, .f32⟩
  | 103 => ⟨S_, .i32⟩
  | 104 => ⟨S_, .i32⟩
  | 105 => ⟨S_, .f32⟩
  | 106 => ⟨S1000000, .f32⟩
  | 107 => ⟨S1000000, .f32⟩
  | 108 => ⟨S_, .f32⟩
  | 109 => ⟨S1000000, .f32⟩
  | 110 => ⟨S1000000, .f32⟩
  | 111 => ⟨S1000000, .i32⟩
  | 112 => ⟨S1000000, .f32⟩
  | 113 => ⟨S_, .i32⟩
  | 114 => ⟨S_, .i32⟩
  | 115 => ⟨S_, .f32⟩
  | 116 => ⟨S1000000, .f32⟩
  | 117 => ⟨S1000000, .f32⟩
  | 118 => ⟨S_, .f32⟩
  | 119 => ⟨S1000000, .f32⟩
  | 120 => ⟨S1000000, .f32⟩
  | 121 => ⟨S1000000, .i32⟩
  | 122 => ⟨S_, .i32⟩
  | 123 => ⟨S_, .i32⟩
  | 124 => ⟨S1000000, .i32⟩
  | 125 => ⟨S1000000, .i32⟩
  | 126 => ⟨S_, .i32⟩
  | 127 => ⟨S_, .i32⟩
  | _ => ⟨S1000000x4, .f32⟩

abbrev hbmTy0_4 (i : Nat) : BufTy := match i % 128 with
  | 0 => ⟨S1000000, .i32⟩
  | 1 => ⟨S1000000, .i32⟩
  | 2 => ⟨S_, .f32⟩
  | 3 => ⟨S2049x2049, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S_, .i32⟩
  | 12 => ⟨S1000000, .i32⟩
  | 13 => ⟨S1000000, .i1⟩
  | 14 => ⟨S_, .i32⟩
  | 15 => ⟨S1000000, .i32⟩
  | 16 => ⟨S1000000, .i32⟩
  | 17 => ⟨S1000000, .i32⟩
  | 18 => ⟨S1000000x1, .i32⟩
  | 19 => ⟨S1000000x1, .i32⟩
  | 20 => ⟨S1000000x2, .i32⟩
  | 21 => ⟨S2049x2049, .f32⟩
  | 22 => ⟨S2048x2048, .f32⟩
  | _ => ⟨S1000000x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1000000x4, .f32⟩

abbrev bufTy : (tb : Table) → Fin (tcTables nBuf tb) → BufTy
  | .hbm, ⟨i, _⟩ => hbmTy i
  | _, _ => ⟨S1000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_1 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_3 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_4 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_5 : Ref sig .tc := ⟨.hbm, 56, rfl⟩
abbrev main_v48 : Ref sig .tc := ⟨.hbm, 57, rfl⟩
abbrev main_cst_6 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_7 : Ref sig .tc := ⟨.hbm, 62, rfl⟩
abbrev main_v52 : Ref sig .tc := ⟨.hbm, 63, rfl⟩
abbrev main_v53 : Ref sig .tc := ⟨.hbm, 64, rfl⟩
abbrev main_cst_8 : Ref sig .tc := ⟨.hbm, 65, rfl⟩
abbrev main_v54 : Ref sig .tc := ⟨.hbm, 66, rfl⟩
abbrev main_v55 : Ref sig .tc := ⟨.hbm, 67, rfl⟩
abbrev main_cst_9 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_10 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_11 : Ref sig .tc := ⟨.hbm, 88, rfl⟩
abbrev main_v74 : Ref sig .tc := ⟨.hbm, 89, rfl⟩
abbrev main_cst_12 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_cst_13 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_cst_14 : Ref sig .tc := ⟨.hbm, 141, rfl⟩
abbrev main_v124 : Ref sig .tc := ⟨.hbm, 142, rfl⟩
abbrev main_cst_15 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_cst_16 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_cst_17 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_cst_18 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_cst_19 : Ref sig .tc := ⟨.hbm, 173, rfl⟩
abbrev main_v151 : Ref sig .tc := ⟨.hbm, 174, rfl⟩
abbrev main_cst_20 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_cst_21 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_cst_22 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_cst_23 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_cst_24 : Ref sig .tc := ⟨.hbm, 206, rfl⟩
abbrev main_v179 : Ref sig .tc := ⟨.hbm, 207, rfl⟩
abbrev main_cst_25 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_cst_26 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_cst_27 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_cst_28 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_cst_29 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_cst_30 : Ref sig .tc := ⟨.hbm, 249, rfl⟩
abbrev main_v216 : Ref sig .tc := ⟨.hbm, 250, rfl⟩
abbrev main_v217 : Ref sig .tc := ⟨.hbm, 251, rfl⟩
abbrev main_cst_31 : Ref sig .tc := ⟨.hbm, 252, rfl⟩
abbrev main_call0_v0 : Ref sig .tc := ⟨.hbm, 253, rfl⟩
abbrev main_call0_v1 : Ref sig .tc := ⟨.hbm, 254, rfl⟩
abbrev main_v218 : Ref sig .tc := ⟨.hbm, 255, rfl⟩
abbrev main_cst_32 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_cst_33 : Ref sig .tc := ⟨.hbm, 260, rfl⟩
abbrev main_v222 : Ref sig .tc := ⟨.hbm, 261, rfl⟩
abbrev main_v223 : Ref sig .tc := ⟨.hbm, 262, rfl⟩
abbrev main_cst_34 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_cst_35 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_cst_36 : Ref sig .tc := ⟨.hbm, 272, rfl⟩
abbrev main_v231 : Ref sig .tc := ⟨.hbm, 273, rfl⟩
abbrev main_v232 : Ref sig .tc := ⟨.hbm, 274, rfl⟩
abbrev main_cst_37 : Ref sig .tc := ⟨.hbm, 275, rfl⟩
abbrev main_call1_v0 : Ref sig .tc := ⟨.hbm, 276, rfl⟩
abbrev main_call1_v1 : Ref sig .tc := ⟨.hbm, 277, rfl⟩
abbrev main_v233 : Ref sig .tc := ⟨.hbm, 278, rfl⟩
abbrev main_cst_38 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_cst_39 : Ref sig .tc := ⟨.hbm, 283, rfl⟩
abbrev main_v237 : Ref sig .tc := ⟨.hbm, 284, rfl⟩
abbrev main_v238 : Ref sig .tc := ⟨.hbm, 285, rfl⟩
abbrev main_cst_40 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_cst_41 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_cst_42 : Ref sig .tc := ⟨.hbm, 295, rfl⟩
abbrev main_v246 : Ref sig .tc := ⟨.hbm, 296, rfl⟩
abbrev main_v247 : Ref sig .tc := ⟨.hbm, 297, rfl⟩
abbrev main_cst_43 : Ref sig .tc := ⟨.hbm, 298, rfl⟩
abbrev main_call2_v0 : Ref sig .tc := ⟨.hbm, 299, rfl⟩
abbrev main_call2_v1 : Ref sig .tc := ⟨.hbm, 300, rfl⟩
abbrev main_v248 : Ref sig .tc := ⟨.hbm, 301, rfl⟩
abbrev main_cst_44 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_cst_45 : Ref sig .tc := ⟨.hbm, 306, rfl⟩
abbrev main_v252 : Ref sig .tc := ⟨.hbm, 307, rfl⟩
abbrev main_v253 : Ref sig .tc := ⟨.hbm, 308, rfl⟩
abbrev main_cst_46 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_cst_47 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_cst_48 : Ref sig .tc := ⟨.hbm, 318, rfl⟩
abbrev main_v261 : Ref sig .tc := ⟨.hbm, 319, rfl⟩
abbrev main_v262 : Ref sig .tc := ⟨.hbm, 320, rfl⟩
abbrev main_cst_49 : Ref sig .tc := ⟨.hbm, 321, rfl⟩
abbrev main_call3_v0 : Ref sig .tc := ⟨.hbm, 322, rfl⟩
abbrev main_call3_v1 : Ref sig .tc := ⟨.hbm, 323, rfl⟩
abbrev main_v263 : Ref sig .tc := ⟨.hbm, 324, rfl⟩
abbrev main_cst_50 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_cst_51 : Ref sig .tc := ⟨.hbm, 329, rfl⟩
abbrev main_v267 : Ref sig .tc := ⟨.hbm, 330, rfl⟩
abbrev main_v268 : Ref sig .tc := ⟨.hbm, 331, rfl⟩
abbrev main_cst_52 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_cst_53 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_c : Ref sig .tc := ⟨.hbm, 340, rfl⟩
abbrev main_c_54 : Ref sig .tc := ⟨.hbm, 341, rfl⟩
abbrev main_call4_v0 : Ref sig .tc := ⟨.hbm, 342, rfl⟩
abbrev main_call4_v1 : Ref sig .tc := ⟨.hbm, 343, rfl⟩
abbrev main_call4_v2 : Ref sig .tc := ⟨.hbm, 344, rfl⟩
abbrev main_call4_v3 : Ref sig .tc := ⟨.hbm, 345, rfl⟩
abbrev main_call4_v4 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_c_55 : Ref sig .tc := ⟨.hbm, 350, rfl⟩
abbrev main_c_56 : Ref sig .tc := ⟨.hbm, 351, rfl⟩
abbrev main_call5_v0 : Ref sig .tc := ⟨.hbm, 352, rfl⟩
abbrev main_call5_v1 : Ref sig .tc := ⟨.hbm, 353, rfl⟩
abbrev main_call5_v2 : Ref sig .tc := ⟨.hbm, 354, rfl⟩
abbrev main_call5_v3 : Ref sig .tc := ⟨.hbm, 355, rfl⟩
abbrev main_call5_v4 : Ref sig .tc := ⟨.hbm, 356, rfl⟩
abbrev main_v278 : Ref sig .tc := ⟨.hbm, 357, rfl⟩
abbrev main_v279 : Ref sig .tc := ⟨.hbm, 358, rfl⟩
abbrev main_c_57 : Ref sig .tc := ⟨.hbm, 359, rfl⟩
abbrev main_call6_v0 : Ref sig .tc := ⟨.hbm, 360, rfl⟩
abbrev main_call6_v1 : Ref sig .tc := ⟨.hbm, 361, rfl⟩
abbrev main_v280 : Ref sig .tc := ⟨.hbm, 362, rfl⟩
abbrev main_c_58 : Ref sig .tc := ⟨.hbm, 363, rfl⟩
abbrev main_call7_v0 : Ref sig .tc := ⟨.hbm, 364, rfl⟩
abbrev main_call7_v1 : Ref sig .tc := ⟨.hbm, 365, rfl⟩
abbrev main_v281 : Ref sig .tc := ⟨.hbm, 366, rfl⟩
abbrev main_cst_59 : Ref sig .tc := ⟨.hbm, 367, rfl⟩
abbrev main_v282 : Ref sig .tc := ⟨.hbm, 368, rfl⟩
abbrev main_c_60 : Ref sig .tc := ⟨.hbm, 369, rfl⟩
abbrev main_v283 : Ref sig .tc := ⟨.hbm, 370, rfl⟩
abbrev main_v284 : Ref sig .tc := ⟨.hbm, 371, rfl⟩
abbrev main_c_61 : Ref sig .tc := ⟨.hbm, 372, rfl⟩
abbrev main_v285 : Ref sig .tc := ⟨.hbm, 373, rfl⟩
abbrev main_v286 : Ref sig .tc := ⟨.hbm, 374, rfl⟩
abbrev main_v287 : Ref sig .tc := ⟨.hbm, 375, rfl⟩
abbrev main_c_62 : Ref sig .tc := ⟨.hbm, 376, rfl⟩
abbrev main_v288 : Ref sig .tc := ⟨.hbm, 377, rfl⟩
abbrev main_v289 : Ref sig .tc := ⟨.hbm, 378, rfl⟩
abbrev main_c_63 : Ref sig .tc := ⟨.hbm, 379, rfl⟩
abbrev main_v290 : Ref sig .tc := ⟨.hbm, 380, rfl⟩
abbrev main_v291 : Ref sig .tc := ⟨.hbm, 381, rfl⟩
abbrev main_v292 : Ref sig .tc := ⟨.hbm, 382, rfl⟩
abbrev main_v293 : Ref sig .tc := ⟨.hbm, 383, rfl⟩
abbrev main_v294 : Ref sig .tc := ⟨.hbm, 384, rfl⟩
abbrev main_v295 : Ref sig .tc := ⟨.hbm, 385, rfl⟩
abbrev main_v296 : Ref sig .tc := ⟨.hbm, 386, rfl⟩
abbrev main_v297 : Ref sig .tc := ⟨.hbm, 387, rfl⟩
abbrev main_v298 : Ref sig .tc := ⟨.hbm, 388, rfl⟩
abbrev main_c_64 : Ref sig .tc := ⟨.hbm, 389, rfl⟩
abbrev main_c_65 : Ref sig .tc := ⟨.hbm, 390, rfl⟩
abbrev main_call8_v0 : Ref sig .tc := ⟨.hbm, 391, rfl⟩
abbrev main_call8_v1 : Ref sig .tc := ⟨.hbm, 392, rfl⟩
abbrev main_call8_v2 : Ref sig .tc := ⟨.hbm, 393, rfl⟩
abbrev main_call8_v3 : Ref sig .tc := ⟨.hbm, 394, rfl⟩
abbrev main_call8_v4 : Ref sig .tc := ⟨.hbm, 395, rfl⟩
abbrev main_v299 : Ref sig .tc := ⟨.hbm, 396, rfl⟩
abbrev main_v300 : Ref sig .tc := ⟨.hbm, 397, rfl⟩
abbrev main_v301 : Ref sig .tc := ⟨.hbm, 398, rfl⟩
abbrev main_c_66 : Ref sig .tc := ⟨.hbm, 399, rfl⟩
abbrev main_c_67 : Ref sig .tc := ⟨.hbm, 400, rfl⟩
abbrev main_call9_v0 : Ref sig .tc := ⟨.hbm, 401, rfl⟩
abbrev main_call9_v1 : Ref sig .tc := ⟨.hbm, 402, rfl⟩
abbrev main_call9_v2 : Ref sig .tc := ⟨.hbm, 403, rfl⟩
abbrev main_call9_v3 : Ref sig .tc := ⟨.hbm, 404, rfl⟩
abbrev main_call9_v4 : Ref sig .tc := ⟨.hbm, 405, rfl⟩
abbrev main_v302 : Ref sig .tc := ⟨.hbm, 406, rfl⟩
abbrev main_v303 : Ref sig .tc := ⟨.hbm, 407, rfl⟩
abbrev main_c_68 : Ref sig .tc := ⟨.hbm, 408, rfl⟩
abbrev main_call10_v0 : Ref sig .tc := ⟨.hbm, 409, rfl⟩
abbrev main_call10_v1 : Ref sig .tc := ⟨.hbm, 410, rfl⟩
abbrev main_v304 : Ref sig .tc := ⟨.hbm, 411, rfl⟩
abbrev main_c_69 : Ref sig .tc := ⟨.hbm, 412, rfl⟩
abbrev main_call11_v0 : Ref sig .tc := ⟨.hbm, 413, rfl⟩
abbrev main_call11_v1 : Ref sig .tc := ⟨.hbm, 414, rfl⟩
abbrev main_v305 : Ref sig .tc := ⟨.hbm, 415, rfl⟩
abbrev main_cst_70 : Ref sig .tc := ⟨.hbm, 416, rfl⟩
abbrev main_v306 : Ref sig .tc := ⟨.hbm, 417, rfl⟩
abbrev main_c_71 : Ref sig .tc := ⟨.hbm, 418, rfl⟩
abbrev main_v307 : Ref sig .tc := ⟨.hbm, 419, rfl⟩
abbrev main_v308 : Ref sig .tc := ⟨.hbm, 420, rfl⟩
abbrev main_c_72 : Ref sig .tc := ⟨.hbm, 421, rfl⟩
abbrev main_v309 : Ref sig .tc := ⟨.hbm, 422, rfl⟩
abbrev main_v310 : Ref sig .tc := ⟨.hbm, 423, rfl⟩
abbrev main_v311 : Ref sig .tc := ⟨.hbm, 424, rfl⟩
abbrev main_c_73 : Ref sig .tc := ⟨.hbm, 425, rfl⟩
abbrev main_v312 : Ref sig .tc := ⟨.hbm, 426, rfl⟩
abbrev main_v313 : Ref sig .tc := ⟨.hbm, 427, rfl⟩
abbrev main_c_74 : Ref sig .tc := ⟨.hbm, 428, rfl⟩
abbrev main_v314 : Ref sig .tc := ⟨.hbm, 429, rfl⟩
abbrev main_v315 : Ref sig .tc := ⟨.hbm, 430, rfl⟩
abbrev main_v316 : Ref sig .tc := ⟨.hbm, 431, rfl⟩
abbrev main_v317 : Ref sig .tc := ⟨.hbm, 432, rfl⟩
abbrev main_v318 : Ref sig .tc := ⟨.hbm, 433, rfl⟩
abbrev main_v319 : Ref sig .tc := ⟨.hbm, 434, rfl⟩
abbrev main_v320 : Ref sig .tc := ⟨.hbm, 435, rfl⟩
abbrev main_v321 : Ref sig .tc := ⟨.hbm, 436, rfl⟩
abbrev main_v322 : Ref sig .tc := ⟨.hbm, 437, rfl⟩
abbrev main_c_75 : Ref sig .tc := ⟨.hbm, 438, rfl⟩
abbrev main_c_76 : Ref sig .tc := ⟨.hbm, 439, rfl⟩
abbrev main_call12_v0 : Ref sig .tc := ⟨.hbm, 440, rfl⟩
abbrev main_call12_v1 : Ref sig .tc := ⟨.hbm, 441, rfl⟩
abbrev main_call12_v2 : Ref sig .tc := ⟨.hbm, 442, rfl⟩
abbrev main_call12_v3 : Ref sig .tc := ⟨.hbm, 443, rfl⟩
abbrev main_call12_v4 : Ref sig .tc := ⟨.hbm, 444, rfl⟩
abbrev main_v323 : Ref sig .tc := ⟨.hbm, 445, rfl⟩
abbrev main_v324 : Ref sig .tc := ⟨.hbm, 446, rfl⟩
abbrev main_v325 : Ref sig .tc := ⟨.hbm, 447, rfl⟩
abbrev main_c_77 : Ref sig .tc := ⟨.hbm, 448, rfl⟩
abbrev main_c_78 : Ref sig .tc := ⟨.hbm, 449, rfl⟩
abbrev main_call13_v0 : Ref sig .tc := ⟨.hbm, 450, rfl⟩
abbrev main_call13_v1 : Ref sig .tc := ⟨.hbm, 451, rfl⟩
abbrev main_call13_v2 : Ref sig .tc := ⟨.hbm, 452, rfl⟩
abbrev main_call13_v3 : Ref sig .tc := ⟨.hbm, 453, rfl⟩
abbrev main_call13_v4 : Ref sig .tc := ⟨.hbm, 454, rfl⟩
abbrev main_v326 : Ref sig .tc := ⟨.hbm, 455, rfl⟩
abbrev main_v327 : Ref sig .tc := ⟨.hbm, 456, rfl⟩
abbrev main_c_79 : Ref sig .tc := ⟨.hbm, 457, rfl⟩
abbrev main_call14_v0 : Ref sig .tc := ⟨.hbm, 458, rfl⟩
abbrev main_call14_v1 : Ref sig .tc := ⟨.hbm, 459, rfl⟩
abbrev main_v328 : Ref sig .tc := ⟨.hbm, 460, rfl⟩
abbrev main_c_80 : Ref sig .tc := ⟨.hbm, 461, rfl⟩
abbrev main_call15_v0 : Ref sig .tc := ⟨.hbm, 462, rfl⟩
abbrev main_call15_v1 : Ref sig .tc := ⟨.hbm, 463, rfl⟩
abbrev main_v329 : Ref sig .tc := ⟨.hbm, 464, rfl⟩
abbrev main_cst_81 : Ref sig .tc := ⟨.hbm, 465, rfl⟩
abbrev main_v330 : Ref sig .tc := ⟨.hbm, 466, rfl⟩
abbrev main_c_82 : Ref sig .tc := ⟨.hbm, 467, rfl⟩
abbrev main_v331 : Ref sig .tc := ⟨.hbm, 468, rfl⟩
abbrev main_v332 : Ref sig .tc := ⟨.hbm, 469, rfl⟩
abbrev main_c_83 : Ref sig .tc := ⟨.hbm, 470, rfl⟩
abbrev main_v333 : Ref sig .tc := ⟨.hbm, 471, rfl⟩
abbrev main_v334 : Ref sig .tc := ⟨.hbm, 472, rfl⟩
abbrev main_v335 : Ref sig .tc := ⟨.hbm, 473, rfl⟩
abbrev main_c_84 : Ref sig .tc := ⟨.hbm, 474, rfl⟩
abbrev main_v336 : Ref sig .tc := ⟨.hbm, 475, rfl⟩
abbrev main_v337 : Ref sig .tc := ⟨.hbm, 476, rfl⟩
abbrev main_c_85 : Ref sig .tc := ⟨.hbm, 477, rfl⟩
abbrev main_v338 : Ref sig .tc := ⟨.hbm, 478, rfl⟩
abbrev main_v339 : Ref sig .tc := ⟨.hbm, 479, rfl⟩
abbrev main_v340 : Ref sig .tc := ⟨.hbm, 480, rfl⟩
abbrev main_v341 : Ref sig .tc := ⟨.hbm, 481, rfl⟩
abbrev main_v342 : Ref sig .tc := ⟨.hbm, 482, rfl⟩
abbrev main_v343 : Ref sig .tc := ⟨.hbm, 483, rfl⟩
abbrev main_v344 : Ref sig .tc := ⟨.hbm, 484, rfl⟩
abbrev main_v345 : Ref sig .tc := ⟨.hbm, 485, rfl⟩
abbrev main_v346 : Ref sig .tc := ⟨.hbm, 486, rfl⟩
abbrev main_c_86 : Ref sig .tc := ⟨.hbm, 487, rfl⟩
abbrev main_c_87 : Ref sig .tc := ⟨.hbm, 488, rfl⟩
abbrev main_call16_v0 : Ref sig .tc := ⟨.hbm, 489, rfl⟩
abbrev main_call16_v1 : Ref sig .tc := ⟨.hbm, 490, rfl⟩
abbrev main_call16_v2 : Ref sig .tc := ⟨.hbm, 491, rfl⟩
abbrev main_call16_v3 : Ref sig .tc := ⟨.hbm, 492, rfl⟩
abbrev main_call16_v4 : Ref sig .tc := ⟨.hbm, 493, rfl⟩
abbrev main_v347 : Ref sig .tc := ⟨.hbm, 494, rfl⟩
abbrev main_v348 : Ref sig .tc := ⟨.hbm, 495, rfl⟩
abbrev main_v349 : Ref sig .tc := ⟨.hbm, 496, rfl⟩
abbrev main_c_88 : Ref sig .tc := ⟨.hbm, 497, rfl⟩
abbrev main_c_89 : Ref sig .tc := ⟨.hbm, 498, rfl⟩
abbrev main_call17_v0 : Ref sig .tc := ⟨.hbm, 499, rfl⟩
abbrev main_call17_v1 : Ref sig .tc := ⟨.hbm, 500, rfl⟩
abbrev main_call17_v2 : Ref sig .tc := ⟨.hbm, 501, rfl⟩
abbrev main_call17_v3 : Ref sig .tc := ⟨.hbm, 502, rfl⟩
abbrev main_call17_v4 : Ref sig .tc := ⟨.hbm, 503, rfl⟩
abbrev main_v350 : Ref sig .tc := ⟨.hbm, 504, rfl⟩
abbrev main_v351 : Ref sig .tc := ⟨.hbm, 505, rfl⟩
abbrev main_c_90 : Ref sig .tc := ⟨.hbm, 506, rfl⟩
abbrev main_call18_v0 : Ref sig .tc := ⟨.hbm, 507, rfl⟩
abbrev main_call18_v1 : Ref sig .tc := ⟨.hbm, 508, rfl⟩
abbrev main_v352 : Ref sig .tc := ⟨.hbm, 509, rfl⟩
abbrev main_c_91 : Ref sig .tc := ⟨.hbm, 510, rfl⟩
abbrev main_call19_v0 : Ref sig .tc := ⟨.hbm, 511, rfl⟩
abbrev main_call19_v1 : Ref sig .tc := ⟨.hbm, 512, rfl⟩
abbrev main_v353 : Ref sig .tc := ⟨.hbm, 513, rfl⟩
abbrev main_cst_92 : Ref sig .tc := ⟨.hbm, 514, rfl⟩
abbrev main_v354 : Ref sig .tc := ⟨.hbm, 515, rfl⟩
abbrev main_c_93 : Ref sig .tc := ⟨.hbm, 516, rfl⟩
abbrev main_v355 : Ref sig .tc := ⟨.hbm, 517, rfl⟩
abbrev main_v356 : Ref sig .tc := ⟨.hbm, 518, rfl⟩
abbrev main_c_94 : Ref sig .tc := ⟨.hbm, 519, rfl⟩
abbrev main_v357 : Ref sig .tc := ⟨.hbm, 520, rfl⟩
abbrev main_v358 : Ref sig .tc := ⟨.hbm, 521, rfl⟩
abbrev main_v359 : Ref sig .tc := ⟨.hbm, 522, rfl⟩
abbrev main_c_95 : Ref sig .tc := ⟨.hbm, 523, rfl⟩
abbrev main_v360 : Ref sig .tc := ⟨.hbm, 524, rfl⟩
abbrev main_v361 : Ref sig .tc := ⟨.hbm, 525, rfl⟩
abbrev main_c_96 : Ref sig .tc := ⟨.hbm, 526, rfl⟩
abbrev main_v362 : Ref sig .tc := ⟨.hbm, 527, rfl⟩
abbrev main_v363 : Ref sig .tc := ⟨.hbm, 528, rfl⟩
abbrev main_v364 : Ref sig .tc := ⟨.hbm, 529, rfl⟩
abbrev main_v365 : Ref sig .tc := ⟨.hbm, 530, rfl⟩
abbrev main_v366 : Ref sig .tc := ⟨.hbm, 531, rfl⟩
abbrev main_v367 : Ref sig .tc := ⟨.hbm, 532, rfl⟩
abbrev main_v368 : Ref sig .tc := ⟨.hbm, 533, rfl⟩
abbrev main_v369 : Ref sig .tc := ⟨.hbm, 534, rfl⟩

abbrev nD : Nat := 1
abbrev τ : Topo := Topo.v7x

variable {F : FTy → Type} [FloatOps F]
-- ==== Proof.Kern.Runs.lean ====
/- The launch of the kernel program, as its run needs it: the host lines before and after the kernel, what each writes,
   the blocks the kernel is handed, and how the frame follows from a run. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v30, main_c_10, main_v31, main_v32, main_c_11, main_v33, main_v34, main_v35, main_c_12, main_v36, main_v37, main_c_13, main_v38, main_v39, main_c_14]
theorem hostOps1_writes : (hostOps1 : List (HloOp τ sig (Elt F))).Forall fun op => op.writes ⊆ (hostOps1_W.map (Proc.devRef (τ := τ) .tc)).toFinset :=
  StableHlo.forall_writes_sub_of_map rfl
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call0_v0, main_call0_v1, main_v40]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_c_15, main_v41, main_v42, main_c_16]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_call1_v0, main_call1_v1, main_v43]
theorem hostOps1_3_writes : (hostOps1_3 : List (HloOp τ sig (Elt F))).Forall fun op => op.writes ⊆ (hostOps1_3_W.map (Proc.devRef (τ := τ) .tc)).toFinset :=
  StableHlo.forall_writes_sub_of_map rfl
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_cst_17, main_v44, main_c_18, main_v45, main_v46, main_c_19, main_v47, main_v48, main_v49, main_c_20, main_v50, main_v51, main_c_21, main_v52, main_v53, main_v54, main_v55, main_v56, main_v57, main_v58, main_v59, main_c_22, main_v60, main_v61, main_c_23, main_v62, main_v63, main_v64, main_c_24, main_v65, main_v66, main_c_25, main_v67, main_v68, main_c_26]
theorem hostOps1_4_writes : (hostOps1_4 : List (HloOp τ sig (Elt F))).Forall fun op => op.writes ⊆ (hostOps1_4_W.map (Proc.devRef (τ := τ) .tc)).toFinset :=
  StableHlo.forall_writes_sub_of_map rfl
theorem hostOps1_5_fresh : (hostOps1_5 : List (HloOp τ sig (Elt F))).Forall fun op => op.fresh = ∅ := by
  simp only [List.Forall]; repeat' constructor
/-- The reference each operation of `hostOps1_5` writes, in order. -/
abbrev hostOps1_5_W : List (Ref sig .tc) := [main_call2_v0, main_call2_v1, main_v69]
theorem hostOps1_5_writes : (hostOps1_5 : List (HloOp τ sig (Elt F))).Forall fun op => op.writes ⊆ (hostOps1_5_W.map (Proc.devRef (τ := τ) .tc)).toFinset :=
  StableHlo.forall_writes_sub_of_map rfl
theorem hostOps1_6_fresh : (hostOps1_6 : List (HloOp τ sig (Elt F))).Forall fun op => op.fresh = ∅ := by
  simp only [List.Forall]; repeat' constructor
/-- The reference each operation of `hostOps1_6` writes, in order. -/
abbrev hostOps1_6_W : List (Ref sig .tc) := [main_c_27, main_v70, main_v71, main_c_28]
theorem hostOps1_6_writes : (hostOps1_6 : List (HloOp τ sig (Elt F))).Forall fun op => op.writes ⊆ (hostOps1_6_W.map (Proc.devRef (τ := τ) .tc)).toFinset :=
  StableHlo.forall_writes_sub_of_map rfl
theorem hostOps1_7_fresh : (hostOps1_7 : List (HloOp τ sig (Elt F))).Forall fun op => op.fresh = ∅ := by
  simp only [List.Forall]; repeat' constructor
/-- The reference each operation of `hostOps1_7` writes, in order. -/
abbrev hostOps1_7_W : List (Ref sig .tc) := [main_call3_v0, main_call3_v1, main_v72]
theorem hostOps1_7_writes : (hostOps1_7 : List (HloOp τ sig (Elt F))).Forall fun op => op.writes ⊆ (hostOps1_7_W.map (Proc.devRef (τ := τ) .tc)).toFinset :=
  StableHlo.forall_writes_sub_of_map rfl
theorem hostOps1_8_fresh : (hostOps1_8 : List (HloOp τ sig (Elt F))).Forall fun op => op.fresh = ∅ := by
  simp only [List.Forall]; repeat' constructor
/-- The reference each operation of `hostOps1_8` writes, in order. -/
abbrev hostOps1_8_W : List (Ref sig .tc) := [main_cst_29, main_v73, main_c_30, main_v74, main_v75, main_c_31, main_v76, main_v77, main_v78, main_c_32, main_v79, main_v80, main_c_33, main_v81, main_v82, main_v83, main_v84, main_v85, main_v86, main_v87, main_v88, main_c_34, main_v89, main_v90, main_c_35, main_v91, main_v92, main_v93, main_c_36, main_v94, main_v95, main_c_37, main_v96, main_v97, main_c_38]
theorem hostOps1_8_writes : (hostOps1_8 : List (HloOp τ sig (Elt F))).Forall fun op => op.writes ⊆ (hostOps1_8_W.map (Proc.devRef (τ := τ) .tc)).toFinset :=
  StableHlo.forall_writes_sub_of_map rfl
theorem hostOps1_9_fresh : (hostOps1_9 : List (HloOp τ sig (Elt F))).Forall fun op => op.fresh = ∅ := by
  simp only [List.Forall]; repeat' constructor
/-- The reference each operation of `hostOps1_9` writes, in order. -/
abbrev hostOps1_9_W : List (Ref sig .tc) := [main_call4_v0, main_call4_v1, main_v98]
theorem hostOps1_9_writes : (hostOps1_9 : List (HloOp τ sig (Elt F))).Forall fun op => op.writes ⊆ (hostOps1_9_W.map (Proc.devRef (τ := τ) .tc)).toFinset :=
  StableHlo.forall_writes_sub_of_map rfl
theorem hostOps1_10_fresh : (hostOps1_10 : List (HloOp τ sig (Elt F))).Forall fun op => op.fresh = ∅ := by
  simp only [List.Forall]; repeat' constructor
/-- The reference each operation of `hostOps1_10` writes, in order. -/
abbrev hostOps1_10_W : List (Ref sig .tc) := [main_c_39, main_v99, main_v100, main_c_40]
theorem hostOps1_10_writes : (hostOps1_10 : List (HloOp τ sig (Elt F))).Forall fun op => op.writes ⊆ (hostOps1_10_W.map (Proc.devRef (τ := τ) .tc)).toFinset :=
  StableHlo.forall_writes_sub_of_map rfl
theorem hostOps1_11_fresh : (hostOps1_11 : List (HloOp τ sig (Elt F))).Forall fun op => op.fresh = ∅ := by
  simp only [List.Forall]; repeat' constructor
/-- The reference each operation of `hostOps1_11` writes, in order. -/
abbrev hostOps1_11_W : List (Ref sig .tc) := [main_call5_v0, main_call5_v1, main_v101]
theorem hostOps1_11_writes : (hostOps1_11 : List (HloOp τ sig (Elt F))).Forall fun op => op.writes ⊆ (hostOps1_11_W.map (Proc.devRef (τ := τ) .tc)).toFinset :=
  StableHlo.forall_writes_sub_of_map rfl
theorem hostOps1_12_fresh : (hostOps1_12 : List (HloOp τ sig (Elt F))).Forall fun op => op.fresh = ∅ := by
  simp only [List.Forall]; repeat' constructor
/-- The reference each operation of `hostOps1_12` writes, in order. -/
abbrev hostOps1_12_W : List (Ref sig .tc) := [main_cst_41, main_v102, main_c_42, main_v103, main_v104, main_c_43, main_v105, main_v106, main_v107, main_c_44, main_v108, main_v109, main_c_45, main_v110, main_v111, main_v112, main_v113, main_v114, main_v115, main_v116, main_v117, main_c_46, main_v118, main_v119, main_c_47, main_v120, main_v121, main_v122, main_c_48, main_v123, main_v124, main_c_49, main_v125, main_v126, main_c_50]
theorem hostOps1_12_writes : (hostOps1_12 : List (HloOp τ sig (Elt F))).Forall fun op => op.writes ⊆ (hostOps1_12_W.map (Proc.devRef (τ := τ) .tc)).toFinset :=
  StableHlo.forall_writes_sub_of_map rfl
theorem hostOps1_13_fresh : (hostOps1_13 : List (HloOp τ sig (Elt F))).Forall fun op => op.fresh = ∅ := by
  simp only [List.Forall]; repeat' constructor
/-- The reference each operation of `hostOps1_13` writes, in order. -/
abbrev hostOps1_13_W : List (Ref sig .tc) := [main_call6_v0, main_call6_v1, main_v127]
theorem hostOps1_13_writes : (hostOps1_13 : List (HloOp τ sig (Elt F))).Forall fun op => op.writes ⊆ (hostOps1_13_W.map (Proc.devRef (τ := τ) .tc)).toFinset :=
  StableHlo.forall_writes_sub_of_map rfl
theorem hostOps1_14_fresh : (hostOps1_14 : List (HloOp τ sig (Elt F))).Forall fun op => op.fresh = ∅ := by
  simp only [List.Forall]; repeat' constructor
/-- The reference each operation of `hostOps1_14` writes, in order. -/
abbrev hostOps1_14_W : List (Ref sig .tc) := [main_c_51, main_v128, main_v129, main_c_52]
theorem hostOps1_14_writes : (hostOps1_14 : List (HloOp τ sig (Elt F))).Forall fun op => op.writes ⊆ (hostOps1_14_W.map (Proc.devRef (τ := τ) .tc)).toFinset :=
  StableHlo.forall_writes_sub_of_map rfl
theorem hostOps1_15_fresh : (hostOps1_15 : List (HloOp τ sig (Elt F))).Forall fun op => op.fresh = ∅ := by
  simp only [List.Forall]; repeat' constructor
/-- The reference each operation of `hostOps1_15` writes, in order. -/
abbrev hostOps1_15_W : List (Ref sig .tc) := [main_call7_v0, main_call7_v1, main_v130]
theorem hostOps1_15_writes : (hostOps1_15 : List (HloOp τ sig (Elt F))).Forall fun op => op.writes ⊆ (hostOps1_15_W.map (Proc.devRef (τ := τ) .tc)).toFinset :=
  StableHlo.forall_writes_sub_of_map rfl
theorem hostOps1_16_fresh : (hostOps1_16 : List (HloOp τ sig (Elt F))).Forall fun op => op.fresh = ∅ := by
  simp only [List.Forall]; repeat' constructor
/-- The reference each operation of `hostOps1_16` writes, in order. -/
abbrev hostOps1_16_W : List (Ref sig .tc) := [main_cst_53, main_v131, main_c_54, main_v132, main_v133, main_c_55, main_v134, main_v135, main_v136, main_c_56, main_v137, main_v138, main_c_57, main_v139, main_v140, main_v141, main_v142, main_v143, main_v144, main_v145, main_v146]
theorem hostOps1_16_writes : (hostOps1_16 : List (HloOp τ sig (Elt F))).Forall fun op => op.writes ⊆ (hostOps1_16_W.map (Proc.devRef (τ := τ) .tc)).toFinset :=
  StableHlo.forall_writes_sub_of_map rfl

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16].map StableHlo.seq)) :=
  Pipeline.hmain_around cfgs 0 defs₀ 𝒱₀ m main [hostOps0] [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
/-- They allocate nothing. -/
theorem sfx_fresh : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
/-- And write no array of the pipeline: every operation's writes lie within its line's list (`hostOps1_W` to `hostOps1_16_W`), and no
    window's array is in such a list (decided). -/
theorem sfx_keeps : ∀ ops ∈ ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl
  · intro w hb
    obtain ⟨y, hy, he⟩ := List.mem_map.mp (List.mem_toFinset.mp ((List.forall_iff_forall_mem.mp hostOps1_writes) op hop hb))
    exact (by decide +kernel : ∀ w, Pipeline.arrRef spec0 w ∉ hostOps1_W) w (Proc.devRef_injective _ he ▸ hy)
  · intro w hb
    obtain ⟨y, hy, he⟩ := List.mem_map.mp (List.mem_toFinset.mp ((List.forall_iff_forall_mem.mp hostOps1_1_writes) op hop hb))
    exact (by decide +kernel : ∀ w, Pipeline.arrRef spec0 w ∉ hostOps1_1_W) w (Proc.devRef_injective _ he ▸ hy)
  · intro w hb
    obtain ⟨y, hy, he⟩ := List.mem_map.mp (List.mem_toFinset.mp ((List.forall_iff_forall_mem.mp hostOps1_2_writes) op hop hb))
    exact (by decide +kernel : ∀ w, Pipeline.arrRef spec0 w ∉ hostOps1_2_W) w (Proc.devRef_injective _ he ▸ hy)
  · intro w hb
    obtain ⟨y, hy, he⟩ := List.mem_map.mp (List.mem_toFinset.mp ((List.forall_iff_forall_mem.mp hostOps1_3_writes) op hop hb))
    exact (by decide +kernel : ∀ w, Pipeline.arrRef spec0 w ∉ hostOps1_3_W) w (Proc.devRef_injective _ he ▸ hy)
  · intro w hb
    obtain ⟨y, hy, he⟩ := List.mem_map.mp (List.mem_toFinset.mp ((List.forall_iff_forall_mem.mp hostOps1_4_writes) op hop hb))
    exact (by decide +kernel : ∀ w, Pipeline.arrRef spec0 w ∉ hostOps1_4_W) w (Proc.devRef_injective _ he ▸ hy)
  · intro w hb
    obtain ⟨y, hy, he⟩ := List.mem_map.mp (List.mem_toFinset.mp ((List.forall_iff_forall_mem.mp hostOps1_5_writes) op hop hb))
    exact (by decide +kernel : ∀ w, Pipeline.arrRef spec0 w ∉ hostOps1_5_W) w (Proc.devRef_injective _ he ▸ hy)
  · intro w hb
    obtain ⟨y, hy, he⟩ := List.mem_map.mp (List.mem_toFinset.mp ((List.forall_iff_forall_mem.mp hostOps1_6_writes) op hop hb))
    exact (by decide +kernel : ∀ w, Pipeline.arrRef spec0 w ∉ hostOps1_6_W) w (Proc.devRef_injective _ he ▸ hy)
  · intro w hb
    obtain ⟨y, hy, he⟩ := List.mem_map.mp (List.mem_toFinset.mp ((List.forall_iff_forall_mem.mp hostOps1_7_writes) op hop hb))
    exact (by decide +kernel : ∀ w, Pipeline.arrRef spec0 w ∉ hostOps1_7_W) w (Proc.devRef_injective _ he ▸ hy)
  · intro w hb
    obtain ⟨y, hy, he⟩ := List.mem_map.mp (List.mem_toFinset.mp ((List.forall_iff_forall_mem.mp hostOps1_8_writes) op hop hb))
    exact (by decide +kernel : ∀ w, Pipeline.arrRef spec0 w ∉ hostOps1_8_W) w (Proc.devRef_injective _ he ▸ hy)
  · intro w hb
    obtain ⟨y, hy, he⟩ := List.mem_map.mp (List.mem_toFinset.mp ((List.forall_iff_forall_mem.mp hostOps1_9_writes) op hop hb))
    exact (by decide +kernel : ∀ w, Pipeline.arrRef spec0 w ∉ hostOps1_9_W) w (Proc.devRef_injective _ he ▸ hy)
  · intro w hb
    obtain ⟨y, hy, he⟩ := List.mem_map.mp (List.mem_toFinset.mp ((List.forall_iff_forall_mem.mp hostOps1_10_writes) op hop hb))
    exact (by decide +kernel : ∀ w, Pipeline.arrRef spec0 w ∉ hostOps1_10_W) w (Proc.devRef_injective _ he ▸ hy)
  · intro w hb
    obtain ⟨y, hy, he⟩ := List.mem_map.mp (List.mem_toFinset.mp ((List.forall_iff_forall_mem.mp hostOps1_11_writes) op hop hb))
    exact (by decide +kernel : ∀ w, Pipeline.arrRef spec0 w ∉ hostOps1_11_W) w (Proc.devRef_injective _ he ▸ hy)
  · intro w hb
    obtain ⟨y, hy, he⟩ := List.mem_map.mp (List.mem_toFinset.mp ((List.forall_iff_forall_mem.mp hostOps1_12_writes) op hop hb))
    exact (by decide +kernel : ∀ w, Pipeline.arrRef spec0 w ∉ hostOps1_12_W) w (Proc.devRef_injective _ he ▸ hy)
  · intro w hb
    obtain ⟨y, hy, he⟩ := List.mem_map.mp (List.mem_toFinset.mp ((List.forall_iff_forall_mem.mp hostOps1_13_writes) op hop hb))
    exact (by decide +kernel : ∀ w, Pipeline.arrRef spec0 w ∉ hostOps1_13_W) w (Proc.devRef_injective _ he ▸ hy)
  · intro w hb
    obtain ⟨y, hy, he⟩ := List.mem_map.mp (List.mem_toFinset.mp ((List.forall_iff_forall_mem.mp hostOps1_14_writes) op hop hb))
    exact (by decide +kernel : ∀ w, Pipeline.arrRef spec0 w ∉ hostOps1_14_W) w (Proc.devRef_injective _ he ▸ hy)
  · intro w hb
    obtain ⟨y, hy, he⟩ := List.mem_map.mp (List.mem_toFinset.mp ((List.forall_iff_forall_mem.mp hostOps1_15_writes) op hop hb))
    exact (by decide +kernel : ∀ w, Pipeline.arrRef spec0 w ∉ hostOps1_15_W) w (Proc.devRef_injective _ he ▸ hy)
  · intro w hb
    obtain ⟨y, hy, he⟩ := List.mem_map.mp (List.mem_toFinset.mp ((List.forall_iff_forall_mem.mp hostOps1_16_writes) op hop hb))
    exact (by decide +kernel : ∀ w, Pipeline.arrRef spec0 w ∉ hostOps1_16_W) w (Proc.devRef_injective _ he ▸ hy)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0` (it is in no line's list of written references, `hostOps1_W` to `hostOps1_16_W`): it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] c main_arg0 = m ((c : Thread nD τ).loc main_arg0) := by
  unfold Pipeline.afterTail₀
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append,
    StableHlo.after_of_writes_sub (r := main_arg0) hostOps1_16 _ hostOps1_16_writes (by decide +kernel),
    StableHlo.after_of_writes_sub (r := main_arg0) hostOps1_15 _ hostOps1_15_writes (by decide +kernel),
    StableHlo.after_of_writes_sub (r := main_arg0) hostOps1_14 _ hostOps1_14_writes (by decide +kernel),
    StableHlo.after_of_writes_sub (r := main_arg0) hostOps1_13 _ hostOps1_13_writes (by decide +kernel),
    StableHlo.after_of_writes_sub (r := main_arg0) hostOps1_12 _ hostOps1_12_writes (by decide +kernel),
    StableHlo.after_of_writes_sub (r := main_arg0) hostOps1_11 _ hostOps1_11_writes (by decide +kernel),
    StableHlo.after_of_writes_sub (r := main_arg0) hostOps1_10 _ hostOps1_10_writes (by decide +kernel),
    StableHlo.after_of_writes_sub (r := main_arg0) hostOps1_9 _ hostOps1_9_writes (by decide +kernel),
    StableHlo.after_of_writes_sub (r := main_arg0) hostOps1_8 _ hostOps1_8_writes (by decide +kernel),
    StableHlo.after_of_writes_sub (r := main_arg0) hostOps1_7 _ hostOps1_7_writes (by decide +kernel),
    StableHlo.after_of_writes_sub (r := main_arg0) hostOps1_6 _ hostOps1_6_writes (by decide +kernel),
    StableHlo.after_of_writes_sub (r := main_arg0) hostOps1_5 _ hostOps1_5_writes (by decide +kernel),
    StableHlo.after_of_writes_sub (r := main_arg0) hostOps1_4 _ hostOps1_4_writes (by decide +kernel),
    StableHlo.after_of_writes_sub (r := main_arg0) hostOps1_3 _ hostOps1_3_writes (by decide +kernel),
    StableHlo.after_of_writes_sub (r := main_arg0) hostOps1_2 _ hostOps1_2_writes (by decide +kernel),
    StableHlo.after_of_writes_sub (r := main_arg0) hostOps1_1 _ hostOps1_1_writes (by decide +kernel),
    StableHlo.after_of_writes_sub (r := main_arg0) hostOps1 _ hostOps1_writes (by decide +kernel),
    Pipeline.withArrays_of_ne _ c (V0 m c) _ main_arg0 (by exact (by decide : ∀ w, Pipeline.arrRef spec0 w ≠ main_arg0))]
  exact V_main_arg0 m c
/-- No host operation after the region writes `main_arg1` (it is in no line's list of written references, `hostOps1_W` to `hostOps1_16_W`): it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] c main_arg1 = m ((c : Thread nD τ).loc main_arg1) := by
  unfold Pipeline.afterTail₀
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append,
    StableHlo.after_of_writes_sub (r := main_arg1) hostOps1_16 _ hostOps1_16_writes (by decide +kernel),
    StableHlo.after_of_writes_sub (r := main_arg1) hostOps1_15 _ hostOps1_15_writes (by decide +kernel),
    StableHlo.after_of_writes_sub (r := main_arg1) hostOps1_14 _ hostOps1_14_writes (by decide +kernel),
    StableHlo.after_of_writes_sub (r := main_arg1) hostOps1_13 _ hostOps1_13_writes (by decide +kernel),
    StableHlo.after_of_writes_sub (r := main_arg1) hostOps1_12 _ hostOps1_12_writes (by decide +kernel),
    StableHlo.after_of_writes_sub (r := main_arg1) hostOps1_11 _ hostOps1_11_writes (by decide +kernel),
    StableHlo.after_of_writes_sub (r := main_arg1) hostOps1_10 _ hostOps1_10_writes (by decide +kernel),
    StableHlo.after_of_writes_sub (r := main_arg1) hostOps1_9 _ hostOps1_9_writes (by decide +kernel),
    StableHlo.after_of_writes_sub (r := main_arg1) hostOps1_8 _ hostOps1_8_writes (by decide +kernel),
    StableHlo.after_of_writes_sub (r := main_arg1) hostOps1_7 _ hostOps1_7_writes (by decide +kernel),
    StableHlo.after_of_writes_sub (r := main_arg1) hostOps1_6 _ hostOps1_6_writes (by decide +kernel),
    StableHlo.after_of_writes_sub (r := main_arg1) hostOps1_5 _ hostOps1_5_writes (by decide +kernel),
    StableHlo.after_of_writes_sub (r := main_arg1) hostOps1_4 _ hostOps1_4_writes (by decide +kernel),
    StableHlo.after_of_writes_sub (r := main_arg1) hostOps1_3 _ hostOps1_3_writes (by decide +kernel),
    StableHlo.after_of_writes_sub (r := main_arg1) hostOps1_2 _ hostOps1_2_writes (by decide +kernel),
    StableHlo.after_of_writes_sub (r := main_arg1) hostOps1_1 _ hostOps1_1_writes (by decide +kernel),
    StableHlo.after_of_writes_sub (r := main_arg1) hostOps1 _ hostOps1_writes (by decide +kernel),
    Pipeline.withArrays_of_ne _ c (V0 m c) _ main_arg1 (by exact (by decide : ∀ w, Pipeline.arrRef spec0 w ≠ main_arg1))]
  exact V_main_arg1 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c))⟩) h

/-! ## The kernel body on any staging memrefs: a subtype the run finds -/

/-- One staging buffer of output window 5, through which its contents are stated (`View.read_writes_of_cover`: the
    choice does not matter). -/
abbrev VO0_5 : View sig .tc .vmem S1024x128 .i32 := (Memref.whole cc0_stg5_0 : Memref sig .tc .vmem S1024x128 .i32).view
/-- Each window's current staging memref at point `t`, spelled as the pipeline passes it (`bodyAt0`), and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .i32 := win0_5.stage (cfg0.slots t 5)
abbrev hs0_5 (t : Fin cfg0.N) : (ms0_5 t).IsWhole := hstage0_5 ((cfg0.slots t 5).cast nbuf0_5)

end Cert.Kernel.Gen

end
-- ==== Proof.Kern.RunA.lean ====
/- The kernel's body, run once on any staging buffers: its inputs end as they were and its output ends with the pieces
   the body stored. -/
module

public import proofs.«01_k».proof.Proof.Kern.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x8 .f32) (harg4 : arg4.IsWhole) (arg5 : Memref sig .tc .smem S1 .i32) (harg5 : arg5.IsWhole) (arg6 : Memref sig .tc .vmem S1024x128 .i32) (harg6 : arg6.IsWhole)
    (x0 : Vec F S1024x128 .f32) (x1 : Vec F S1024x128 .f32) (x2 : Vec F S1024x128 .f32) (x3 : Vec F S1x8 .f32) (x4 : Vec F S1 .i32) :
    { L5 : List (View.Piece (Elt F) S1024x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc0__transform_body i arg1 harg1 arg2 harg2 arg3 harg3 arg4 harg4 arg5 harg5 arg6 harg6) K } := by
  refine ⟨?_, fun E K => ?run⟩
  case run =>
    simp only [cc0__transform_body_eq_skeleton]; unfold cc0__transform_body_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Gen

end
-- ==== Proof.Kern.Frame.lean ====
/- The frame of the kernel program: what the body leaves at each grid point, the run of the whole program, its arguments
   unchanged and its semaphore counters at zero. -/
module

public import proofs.«01_k».proof.Proof.Kern.RunA
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 5 tile its block (1 store of `S1024x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x8 .f32) (harg4 : arg4.IsWhole) (arg5 : Memref sig .tc .smem S1 .i32) (harg5 : arg5.IsWhole) (arg6 : Memref sig .tc .vmem S1024x128 .i32) (harg6 : arg6.IsWhole)
    (x0 : Vec F S1024x128 .f32) (x1 : Vec F S1024x128 .f32) (x2 : Vec F S1024x128 .f32) (x3 : Vec F S1x8 .f32) (x4 : Vec F S1 .i32) (y : S1024x128.Idx) :
    ∃ pc ∈ (kernelRun0_A c i arg1 harg1 arg2 harg2 arg3 harg3 arg4 harg4 arg5 harg5 arg6 harg6 x0 x1 x2 x3 x4).1, y ∈ pc.1.set :=
  View.cover_of_tiledL (kernelRun0_A c i arg1 harg1 arg2 harg2 arg3 harg3 arg4 harg4 arg5 harg5 arg6 harg6 x0 x1 x2 x3 x4).1 S1024x128.size (by sl_kernel_rfl) y

/-- What the run leaves in output 5's staging buffer: its pieces read back over junk. -/
def out0_A_5 (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x8 .f32) (harg4 : arg4.IsWhole) (arg5 : Memref sig .tc .smem S1 .i32) (harg5 : arg5.IsWhole) (arg6 : Memref sig .tc .vmem S1024x128 .i32) (harg6 : arg6.IsWhole)
    (x0 : Vec F S1024x128 .f32) (x1 : Vec F S1024x128 .f32) (x2 : Vec F S1024x128 .f32) (x3 : Vec F S1x8 .f32) (x4 : Vec F S1 .i32) : Vec F S1024x128 .i32 :=
  VO0_5.read (Elt F) (VO0_5.writes (Elt F) VO0_5.junk (kernelRun0_A c i arg1 harg1 arg2 harg2 arg3 harg3 arg4 harg4 arg5 harg5 arg6 harg6 x0 x1 x2 x3 x4).1)

/-! ## What the outputs hold after each point -/

/-- What the outputs' staging buffers hold after the body at point `t`: the run's contents at
    the point's memrefs and input blocks. -/
def outsAt0 (c : Dev nD) (t : Fin cfg0.N) : Vec F S1024x128 .i32 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold outsAt0
  unfold out0_A_5
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
set_option maxRecDepth 17888 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Gen

end
-- ==== Proof.Spec.lean ====
/- The plain maths of the cube-map transform, one point at a time, over the extended reals: geodetic coordinates to
   earth-centred ones, to the camera's east-north-up frame, to the camera's axes, and to a pixel of one of four cube faces. -/
module

public import Idealize.ShloMosaic.PureOps.Ideal

@[expose] public section

noncomputable section

namespace Cert.Cube

open Idealize.ShloMosaic

/-- The extended real of a 32-bit float pattern. -/
abbrev lit (b : BitVec 32) : EReal := Ideal.ofBits .f32 b

/-- Degrees to radians. -/
def rad (x : EReal) : EReal := x * lit 0x3C8EFA35#32

/-- One minus the squared eccentricity times the squared sine of the latitude. -/
def flat (lat : EReal) : EReal :=
  lit 0x3F800000#32 - lit 0x3BDB5C88#32 * Ideal.sin (rad lat) * Ideal.sin (rad lat)

/-- The prime vertical radius of curvature, by a division. -/
def radius (lat : EReal) : EReal := Ideal.div (lit 0x4AC2A532#32) (Ideal.sqrt (flat lat))

/-- The same radius by a reciprocal square root. -/
def radiusR (lat : EReal) : EReal := lit 0x4AC2A532#32 * Ideal.rsqrt (flat lat)

/-- Earth-centred x. -/
def ecefX (lat lon alt : EReal) : EReal := (radius lat + alt) * Ideal.cos (rad lat) * Ideal.cos (rad lon)

/-- Earth-centred y. -/
def ecefY (lat lon alt : EReal) : EReal := (radius lat + alt) * Ideal.cos (rad lat) * Ideal.sin (rad lon)

/-- Earth-centred z. -/
def ecefZ (lat alt : EReal) : EReal := (radius lat * lit 0x3F7E4947#32 + alt) * Ideal.sin (rad lat)

/-- The east component of an offset seen from longitude `lon0`. -/
def east (lon0 dx dy : EReal) : EReal := -Ideal.sin (rad lon0) * dx + Ideal.cos (rad lon0) * dy

/-- The north component of an offset seen from `lat0`, `lon0`. -/
def north (lat0 lon0 dx dy dz : EReal) : EReal :=
  -Ideal.sin (rad lat0) * Ideal.cos (rad lon0) * dx - Ideal.sin (rad lat0) * Ideal.sin (rad lon0) * dy
    + Ideal.cos (rad lat0) * dz

/-- The up component of an offset seen from `lat0`, `lon0`. -/
def up (lat0 lon0 dx dy dz : EReal) : EReal :=
  Ideal.cos (rad lat0) * Ideal.cos (rad lon0) * dx + Ideal.cos (rad lat0) * Ideal.sin (rad lon0) * dy
    + Ideal.sin (rad lat0) * dz

/-- The quaternion's length, a little added. -/
def qnorm (s b c d : EReal) : EReal :=
  Ideal.sqrt (s * s + b * b + c * c + d * d) + lit 0x2B8CBCCC#32

/-- The rotated x, by the normalized quaternion `a, b, c, d`. -/
def rotX (a b c d e n u : EReal) : EReal :=
  (lit 0x3F800000#32 - lit 0x40000000#32 * (c * c + d * d)) * e + lit 0x40000000#32 * (b * c - d * a) * n
    + lit 0x40000000#32 * (b * d + c * a) * u

/-- The rotated y. -/
def rotY (a b c d e n u : EReal) : EReal :=
  lit 0x40000000#32 * (b * c + d * a) * e + (lit 0x3F800000#32 - lit 0x40000000#32 * (b * b + d * d)) * n
    + lit 0x40000000#32 * (c * d - b * a) * u

/-- The rotated z. -/
def rotZ (a b c d e n u : EReal) : EReal :=
  lit 0x40000000#32 * (b * d - c * a) * e + lit 0x40000000#32 * (c * d + b * a) * n
    + (lit 0x3F800000#32 - lit 0x40000000#32 * (b * b + c * c)) * u

/-- Whether the view axis `z` is positive and dominates `x` and `y`. -/
def ahead (x y z : EReal) : BitVec 1 :=
  IntOp.andi (IntOp.andi (Ideal.cmp .ogt z (lit 0x00000000#32)) (Ideal.cmp .ogt z (max x (-x))))
    (Ideal.cmp .ogt z (max y (-y)))

/-- Whether the view axis `z` is negative and dominates `x` and `y`. -/
def behind (x y z : EReal) : BitVec 1 :=
  IntOp.andi (IntOp.andi (Ideal.cmp .olt z (lit 0x00000000#32)) (Ideal.cmp .ogt (-z) (max x (-x))))
    (Ideal.cmp .ogt (-z) (max y (-y)))

/-- A divisor kept away from zero. -/
def safe (d : EReal) : EReal := Scalar.select (Ideal.cmp .ogt (max d (-d)) (lit 0x3089705F#32)) d (lit 0x3F800000#32)

/-- The integer `i` as an extended real. -/
def ofWord (i : BitVec 32) : EReal := ((i.toInt : ℝ) : EReal)

/-- A coordinate rounded down and kept within the image, before it is turned into an integer. -/
def clip (v : EReal) : EReal := min (ofWord 2047#32) (max (ofWord 0#32) (Ideal.liftRound Int.floor v))

/-- A perspective coordinate, in pixels. -/
def persp (num den : EReal) : EReal :=
  Ideal.div (lit 0x44800000#32 * num) (safe den) + lit 0x44800000#32

/-- A pixel's row or column. -/
def pix (num den : EReal) : BitVec 32 := Ideal.fptosi 32 (clip (persp num den))

/-- The camera: its geodetic position and its quaternion. -/
structure Cam where
  /-- latitude -/
  lat : EReal
  /-- longitude -/
  lon : EReal
  /-- altitude -/
  alt : EReal
  /-- the quaternion's scalar part -/
  qs : EReal
  /-- the quaternion's first vector part -/
  qx : EReal
  /-- the quaternion's second vector part -/
  qy : EReal
  /-- the quaternion's third vector part -/
  qz : EReal

namespace Cam
variable (k : Cam)

/-- The length the quaternion is divided by. -/
def norm : EReal := qnorm (-k.qs) k.qx k.qy k.qz
/-- The conjugate's normalized scalar part. -/
def a : EReal := Ideal.div (-k.qs) k.norm
/-- The normalized first vector part. -/
def b : EReal := Ideal.div k.qx k.norm
/-- The normalized second vector part. -/
def c : EReal := Ideal.div k.qy k.norm
/-- The normalized third vector part. -/
def d : EReal := Ideal.div k.qz k.norm

variable (lat lon alt : EReal)

/-- The point's earth-centred x less the camera's. -/
def dx : EReal := ecefX lat lon alt - ecefX k.lat k.lon k.alt
/-- The point's earth-centred y less the camera's. -/
def dy : EReal := ecefY lat lon alt - ecefY k.lat k.lon k.alt
/-- The point's earth-centred z less the camera's. -/
def dz : EReal := ecefZ lat alt - ecefZ k.lat k.alt

/-- The point's east offset. -/
def e : EReal := east k.lon (k.dx lat lon alt) (k.dy lat lon alt)
/-- The point's north offset. -/
def n : EReal := north k.lat k.lon (k.dx lat lon alt) (k.dy lat lon alt) (k.dz lat alt)
/-- The point's up offset. -/
def u : EReal := up k.lat k.lon (k.dx lat lon alt) (k.dy lat lon alt) (k.dz lat alt)

/-- The point's x on the camera's axes. -/
def x : EReal := rotX k.a k.b k.c k.d (k.e lat lon alt) (k.n lat lon alt) (k.u lat lon alt)
/-- The point's y on the camera's axes. -/
def y : EReal := rotY k.a k.b k.c k.d (k.e lat lon alt) (k.n lat lon alt) (k.u lat lon alt)
/-- The point's z on the camera's axes. -/
def z : EReal := rotZ k.a k.b k.c k.d (k.e lat lon alt) (k.n lat lon alt) (k.u lat lon alt)

end Cam

/-- What a face asks of a point at camera coordinates `x, y, z`: whether the point is on it, and its row and column there. -/
structure Face where
  /-- whether the point is on the face -/
  on : EReal → EReal → EReal → BitVec 1
  /-- its row -/
  row : EReal → EReal → EReal → BitVec 32
  /-- its column -/
  col : EReal → EReal → EReal → BitVec 32

/-- The front face. -/
def front : Face := ⟨fun x y z => ahead x y z, fun x _ z => pix x z, fun _ y z => pix y z⟩
/-- The back face. -/
def back : Face := ⟨fun x y z => behind x y z, fun x _ z => pix x z, fun _ y z => pix (-y) z⟩
/-- The left face. -/
def left : Face := ⟨fun x y z => behind z y x, fun x _ z => pix z (-x), fun x y _ => pix y (-x)⟩
/-- The right face. -/
def right : Face := ⟨fun x y z => ahead z y x, fun x _ z => pix (-z) x, fun x y _ => pix y x⟩

/-- The row a face files a point under: the spare row 2048 for a point not on it. -/
def Face.putRow (f : Face) (x y z : EReal) : BitVec 32 := Scalar.select (f.on x y z) (f.row x y z) 2048#32
/-- The column a face files a point under: the spare column 2048 for a point not on it. -/
def Face.putCol (f : Face) (x y z : EReal) : BitVec 32 := Scalar.select (f.on x y z) (f.col x y z) 2048#32

/-- A face's pixel as one number. -/
def Face.lin (f : Face) (x y z : EReal) : BitVec 32 :=
  IntOp.addi (IntOp.muli (f.row x y z) 2048#32) (f.col x y z)

/-- The four faces' pixels as one number: each face's block of 2²² numbers starts at its base, and a point on no
    face (or not to be drawn, `v` being zero) takes the number past the last block. -/
def code (v : BitVec 1) (x y z : EReal) : BitVec 32 :=
  Scalar.select (IntOp.andi v (front.on x y z)) (front.lin x y z)
    (Scalar.select (IntOp.andi v (back.on x y z)) (IntOp.addi 4194304#32 (back.lin x y z))
      (Scalar.select (IntOp.andi v (left.on x y z)) (IntOp.addi 8388608#32 (left.lin x y z))
        (Scalar.select (IntOp.andi v (right.on x y z)) (IntOp.addi 12582912#32 (right.lin x y z)) 16777216#32)))

/-- The row a face reads off a code, its block starting at `lo` and the next one at `hi`. -/
def decRow (lo hi w : BitVec 32) : BitVec 32 :=
  Scalar.select (IntOp.andi (IntOp.cmpi .sge w lo) (IntOp.cmpi .slt w hi)) (IntOp.shrsi .host (IntOp.subi w lo) 11#32) 2048#32
/-- The column a face reads off a code. -/
def decCol (lo hi w : BitVec 32) : BitVec 32 :=
  Scalar.select (IntOp.andi (IntOp.cmpi .sge w lo) (IntOp.cmpi .slt w hi)) (IntOp.andi (IntOp.subi w lo) 2047#32) 2048#32

end Cert.Cube

end
-- ==== Proof.Facts.lean ====
/- Facts of the plain maths: the two ways to the radius agree at a finite latitude, a pixel is within the image, a
   point is on one face at most, and a face reads its own row and column off a point's code. -/
module

public import proofs.«01_k».proof.Proof.Spec

@[expose] public section

namespace Cert.Cube

open Idealize.ShloMosaic

/-- The pattern of zero is zero. -/
theorem lit_zero : lit 0x00000000#32 = 0 := by
  simp [lit, Ideal.ofBits, Ideal.ieee]

/-- The pattern of one is one. -/
theorem lit_one : lit 0x3F800000#32 = ((1 : ℝ) : EReal) := by
  simp [lit, Ideal.ofBits, Ideal.ieee, -EReal.coe_mul]; norm_num

/-- The squared eccentricity is a real between zero and one. -/
theorem lit_e2 : ∃ r : ℝ, lit 0x3BDB5C88#32 = (r : EReal) ∧ 0 ≤ r ∧ r < 1 := by
  refine ⟨_, by simp [lit, Ideal.ofBits, Ideal.ieee, -EReal.coe_mul]; rfl, ?_, ?_⟩ <;> norm_num

/-- A difference from the pattern of zero is a negation. -/
theorem lit_zero_sub (x : EReal) : lit 0x00000000#32 - x = -x := by
  rw [lit_zero, zero_sub]

/-- At a finite latitude the ellipsoid's term is a positive real. -/
theorem flat_pos {lat : EReal} (h₁ : lat ≠ ⊤) (h₂ : lat ≠ ⊥) : ∃ r : ℝ, flat lat = (r : EReal) ∧ 0 < r := by
  obtain ⟨e, he, he0, he1⟩ := lit_e2
  obtain ⟨c, hc⟩ : ∃ c : ℝ, lit 0x3C8EFA35#32 = (c : EReal) :=
    ⟨_, by simp [lit, Ideal.ofBits, Ideal.ieee, -EReal.coe_mul]; rfl⟩
  lift lat to ℝ using ⟨h₁, h₂⟩
  refine ⟨1 - e * Real.sin (lat * c) * Real.sin (lat * c), ?_, ?_⟩
  · rw [flat, rad, lit_one, he, hc, ← EReal.coe_mul, Ideal.sin_coe]
    norm_cast
  · have hs := Real.sin_sq_le_one (lat * c)
    nlinarith [sq_nonneg (Real.sin (lat * c))]

/-- At a finite latitude dividing by the root and multiplying by the reciprocal root give one radius. -/
theorem radiusR_eq {lat : EReal} (h₁ : lat ≠ ⊤) (h₂ : lat ≠ ⊥) : radiusR lat = radius lat := by
  obtain ⟨r, hr, h0⟩ := flat_pos h₁ h₂
  have hs : Real.sqrt r ≠ 0 := (Real.sqrt_pos.2 h0).ne'
  rw [radiusR, radius, hr, Ideal.rsqrt_coe, if_neg h0.le.not_gt, if_neg h0.ne', Ideal.sqrt_coe, if_neg h0.le.not_gt,
    Ideal.div_coe hs, one_div]

/-- A clipped coordinate is a real between 0 and 2047. -/
theorem clip_mem (v : EReal) : ∃ r : ℝ, clip v = (r : EReal) ∧ 0 ≤ r ∧ r ≤ 2047 := by
  have h0 : ofWord 0#32 = ((0 : ℝ) : EReal) := by simp [ofWord]
  have h1 : ofWord 2047#32 = ((2047 : ℝ) : EReal) := by
    unfold ofWord; congr 1
  unfold clip
  rw [h0, h1]
  generalize Ideal.liftRound Int.floor v = t
  induction t with
  | bot => exact ⟨0, by rw [max_eq_left bot_le]; exact min_eq_right (EReal.coe_le_coe_iff.2 (by norm_num)), le_rfl, by norm_num⟩
  | top => exact ⟨2047, by rw [max_eq_right le_top]; exact min_eq_left le_top, by norm_num, le_rfl⟩
  | coe r =>
    refine ⟨min 2047 (max 0 r), by push_cast; rfl, le_min (by norm_num) (le_max_left _ _), min_le_left _ _⟩

/-- A pixel's row or column is below 2048. -/
theorem pix_lt (num den : EReal) : (pix num den).toNat < 2048 := by
  obtain ⟨r, hr, h0, h1⟩ := clip_mem (persp num den)
  unfold pix
  rw [hr]
  unfold Ideal.fptosi
  rw [Ideal.toIntClamped_coe, if_pos h0]
  have a : (0 : ℤ) ≤ ⌊r⌋ := Int.floor_nonneg.2 h0
  have b : ⌊r⌋ ≤ 2047 := by
    have : ⌊r⌋ ≤ ⌊(2047 : ℝ)⌋ := Int.floor_le_floor h1
    simpa using this
  generalize ⌊r⌋ = z at a b
  have e : max (-(2 ^ (32 - 1) : Nat) : ℤ) (min (((2 ^ (32 - 1) : Nat) : ℤ) - 1) z) = z := by
    norm_num; omega
  rw [e, BitVec.toNat_ofInt]
  norm_num
  omega

/-- One bit of a conjunction. -/
theorem andi_one (a b : BitVec 1) : IntOp.andi a b = 1 ↔ a = 1 ∧ b = 1 := by
  revert a b; decide

/-- A point ahead: the axis is positive and above the other two in size. -/
theorem ahead_one {x y z : EReal} (h : ahead x y z = 1) : x < z ∧ -x < z ∧ 0 < z := by
  unfold ahead at h
  rw [andi_one, andi_one, lit_zero] at h
  have h2 : max x (-x) < z := by
    have := h.1.2
    unfold Ideal.cmp at this
    by_contra hc
    simp [hc] at this
  have h3 : 0 < z := by
    have := h.1.1
    unfold Ideal.cmp at this
    by_contra hc
    simp [hc] at this
  exact ⟨(le_max_left _ _).trans_lt h2, (le_max_right _ _).trans_lt h2, h3⟩

/-- A point behind: the axis is negative and above the other two in size. -/
theorem behind_one {x y z : EReal} (h : behind x y z = 1) : x < -z ∧ -x < -z ∧ z < 0 := by
  unfold behind at h
  rw [andi_one, andi_one, lit_zero] at h
  have h2 : max x (-x) < -z := by
    have := h.1.2
    unfold Ideal.cmp at this
    by_contra hc
    simp [hc] at this
  have h3 : z < 0 := by
    have := h.1.1
    unfold Ideal.cmp at this
    by_contra hc
    simp [hc] at this
  exact ⟨(le_max_left _ _).trans_lt h2, (le_max_right _ _).trans_lt h2, h3⟩

end Cert.Cube

end
-- ==== Proof.Codes.lean ====
/- A point's code: which numbers it may be, and that each face reads its own row and column back off it. -/
module

public import proofs.«01_k».proof.Proof.Facts

@[expose] public section

namespace Cert.Cube

open Idealize.ShloMosaic

/-- A code within a face's block gives the row and the column that made it. -/
theorem dec_hit {lo hi w r c : BitVec 32} (hw : w.toNat = lo.toNat + (r.toNat * 2048 + c.toNat))
    (hh : hi.toNat = lo.toNat + 4194304) (hl : lo.toNat ≤ 12582912) (hr : r.toNat < 2048) (hc : c.toNat < 2048) :
    decRow lo hi w = r ∧ decCol lo hi w = c := by
  have hw' : w.toNat < 2 ^ 31 := by omega
  have hin : IntOp.andi (IntOp.cmpi .sge w lo) (IntOp.cmpi .slt w hi) = 1 := by
    have e1 : IntOp.cmpi .sge w lo = 1 := by
      simp only [IntOp.cmpi]
      rw [BitVec.sle_eq_decide, decide_eq_true (by
        rw [BitVec.toInt_eq_toNat_of_lt (by omega), BitVec.toInt_eq_toNat_of_lt (by omega)]; omega)]
      rfl
    have e2 : IntOp.cmpi .slt w hi = 1 := by
      simp only [IntOp.cmpi]
      rw [BitVec.slt_eq_decide, decide_eq_true (by
        rw [BitVec.toInt_eq_toNat_of_lt (by omega), BitVec.toInt_eq_toNat_of_lt (by omega)]; omega)]
      rfl
    rw [e1, e2]; rfl
  have hsub : (w - lo).toNat = r.toNat * 2048 + c.toNat := by
    rw [BitVec.toNat_sub]; omega
  unfold decRow decCol
  rw [hin]
  constructor
  · show IntOp.shrsi .host (w - lo) 11#32 = r
    unfold IntOp.shrsi
    rw [if_pos (by decide)]
    apply BitVec.eq_of_toNat_eq
    rw [show (w - lo).sshiftRight' 11#32 = (w - lo).sshiftRight 11 from rfl, BitVec.toNat_sshiftRight_of_msb_false (by
      rw [BitVec.msb_eq_false_iff_two_mul_lt]; omega), hsub, Nat.shiftRight_eq_div_pow]
    norm_num
    omega
  · show (w - lo) &&& 2047#32 = c
    apply BitVec.eq_of_toNat_eq
    rw [BitVec.toNat_and, hsub]
    have e := Nat.and_two_pow_sub_one_eq_mod (r.toNat * 2048 + c.toNat) 11
    norm_num at e ⊢
    rw [e]
    omega

/-- A code outside a face's block gives the spare row and column. -/
theorem dec_miss {lo hi w : BitVec 32} (hw : w.toNat < lo.toNat ∨ hi.toNat ≤ w.toNat) (hl : lo.toNat < 2 ^ 31)
    (hh : hi.toNat < 2 ^ 31) (hw' : w.toNat < 2 ^ 31) : decRow lo hi w = 2048#32 ∧ decCol lo hi w = 2048#32 := by
  have hin : IntOp.andi (IntOp.cmpi .sge w lo) (IntOp.cmpi .slt w hi) ≠ 1 := by
    rw [Ne, andi_one]
    simp only [IntOp.cmpi]
    rw [BitVec.sle_eq_decide, BitVec.slt_eq_decide, BitVec.toInt_eq_toNat_of_lt (by omega),
      BitVec.toInt_eq_toNat_of_lt (by omega), BitVec.toInt_eq_toNat_of_lt (by omega)]
    rintro ⟨h1, h2⟩
    rcases hw with h | h
    · rw [decide_eq_false (by omega)] at h1; exact absurd h1 (by decide)
    · rw [decide_eq_false (by omega)] at h2; exact absurd h2 (by decide)
  unfold decRow decCol
  exact ⟨if_neg hin, if_neg hin⟩

/-- Every face's rows and columns are below 2048. -/
def Face.Small (f : Face) : Prop := ∀ x y z, (f.row x y z).toNat < 2048 ∧ (f.col x y z).toNat < 2048

theorem front_small : front.Small := fun _ _ _ => ⟨pix_lt _ _, pix_lt _ _⟩
theorem back_small : back.Small := fun _ _ _ => ⟨pix_lt _ _, pix_lt _ _⟩
theorem left_small : left.Small := fun _ _ _ => ⟨pix_lt _ _, pix_lt _ _⟩
theorem right_small : right.Small := fun _ _ _ => ⟨pix_lt _ _, pix_lt _ _⟩

/-- A face's pixel number is its row times 2048, plus its column. -/
theorem Face.Small.lin {f : Face} (hf : f.Small) (x y z : EReal) :
    (f.lin x y z).toNat = (f.row x y z).toNat * 2048 + (f.col x y z).toNat := by
  have h := hf x y z
  show (f.row x y z * 2048#32 + f.col x y z).toNat = _
  rw [BitVec.toNat_add, BitVec.toNat_mul]
  norm_num
  omega

/-- A face's block of codes: it starts at `lo` and ends before `hi`, and the code of a point to be drawn lies in it,
    at the face's pixel number, exactly when the point is on the face. -/
structure Face.Block (f : Face) (lo hi : BitVec 32) : Prop where
  /-- the pixels are within the image -/
  small : f.Small
  /-- the block has 2²² codes -/
  hi_eq : hi.toNat = lo.toNat + 4194304
  /-- the last block starts at 12582912 -/
  lo_le : lo.toNat ≤ 12582912
  /-- a point on the face, drawn, has a code in the block -/
  hit : ∀ x y z, f.on x y z = 1 → (code 1 x y z).toNat = lo.toNat + (f.lin x y z).toNat
  /-- a point off the face, or not drawn, has a code outside it -/
  miss : ∀ v x y z, ¬(v = 1 ∧ f.on x y z = 1) → (code v x y z).toNat < lo.toNat ∨ hi.toNat ≤ (code v x y z).toNat

/-- No point is on two of the four faces. -/
theorem on_excl (x y z : EReal) :
    ¬(front.on x y z = 1 ∧ back.on x y z = 1) ∧ ¬(front.on x y z = 1 ∧ left.on x y z = 1)
      ∧ ¬(front.on x y z = 1 ∧ right.on x y z = 1) ∧ ¬(back.on x y z = 1 ∧ left.on x y z = 1)
      ∧ ¬(back.on x y z = 1 ∧ right.on x y z = 1) ∧ ¬(left.on x y z = 1 ∧ right.on x y z = 1) := by
  refine ⟨?_, ?_, ?_, ?_, ?_, ?_⟩ <;> rintro ⟨h1, h2⟩
  · exact lt_asymm (ahead_one h1).2.2 (behind_one h2).2.2
  · exact lt_asymm (ahead_one h1).2.1 (behind_one h2).1
  · exact lt_asymm (ahead_one h1).1 (ahead_one h2).1
  · exact lt_asymm (behind_one h1).2.1 (behind_one h2).2.1
  · exact lt_asymm (behind_one h1).1 (ahead_one h2).2.1
  · exact lt_asymm (behind_one h1).2.2 (ahead_one h2).2.2

/-- A choice among four blocks of numbers, of which at most one is asked for. -/
theorem choice {v f b l r : BitVec 1} {wf wb wl wr : BitVec 32} (hf : wf.toNat < 4194304) (hb : wb.toNat < 4194304)
    (hl : wl.toNat < 4194304) (hr : wr.toNat < 4194304) (h : ¬(f = 1 ∧ b = 1) ∧ ¬(f = 1 ∧ l = 1) ∧ ¬(f = 1 ∧ r = 1)
      ∧ ¬(b = 1 ∧ l = 1) ∧ ¬(b = 1 ∧ r = 1) ∧ ¬(l = 1 ∧ r = 1)) (w : BitVec 32)
    (hw : w = Scalar.select (IntOp.andi v f) wf (Scalar.select (IntOp.andi v b) (IntOp.addi 4194304#32 wb)
      (Scalar.select (IntOp.andi v l) (IntOp.addi 8388608#32 wl)
        (Scalar.select (IntOp.andi v r) (IntOp.addi 12582912#32 wr) 16777216#32)))) :
    ((v = 1 ∧ f = 1 → w.toNat = wf.toNat) ∧ (¬(v = 1 ∧ f = 1) → 4194304 ≤ w.toNat))
      ∧ ((v = 1 ∧ b = 1 → w.toNat = 4194304 + wb.toNat) ∧ (¬(v = 1 ∧ b = 1) → w.toNat < 4194304 ∨ 8388608 ≤ w.toNat))
      ∧ ((v = 1 ∧ l = 1 → w.toNat = 8388608 + wl.toNat) ∧ (¬(v = 1 ∧ l = 1) → w.toNat < 8388608 ∨ 12582912 ≤ w.toNat))
      ∧ ((v = 1 ∧ r = 1 → w.toNat = 12582912 + wr.toNat) ∧ (¬(v = 1 ∧ r = 1) → w.toNat < 12582912 ∨ 16777216 ≤ w.toNat))
      ∧ w.toNat ≤ 16777216 := by
  have eb : (IntOp.addi 4194304#32 wb).toNat = 4194304 + wb.toNat := by
    show (4194304#32 + wb).toNat = _
    rw [BitVec.toNat_add]; norm_num; omega
  have el : (IntOp.addi 8388608#32 wl).toNat = 8388608 + wl.toNat := by
    show (8388608#32 + wl).toNat = _
    rw [BitVec.toNat_add]; norm_num; omega
  have er : (IntOp.addi 12582912#32 wr).toNat = 12582912 + wr.toNat := by
    show (12582912#32 + wr).toNat = _
    rw [BitVec.toNat_add]; norm_num; omega
  have es : (16777216#32 : BitVec 32).toNat = 16777216 := rfl
  unfold Scalar.select at hw
  simp only [andi_one] at hw
  generalize IntOp.addi 4194304#32 wb = ub at eb hw
  generalize IntOp.addi 8388608#32 wl = ul at el hw
  generalize IntOp.addi 12582912#32 wr = ur at er hw
  generalize (16777216#32 : BitVec 32) = us at es hw
  by_cases hv : v = 1 <;> by_cases h1 : f = 1 <;> by_cases h2 : b = 1 <;> by_cases h3 : l = 1 <;> by_cases h4 : r = 1 <;>
    simp only [hv, h1, h2, h3, h4, and_true, true_and, and_false, false_and, if_true, if_false, not_true, not_false_eq_true,
      true_implies, false_implies] at h hw ⊢ <;> subst hw <;> omega

/-- A face's pixel number is below 2²². -/
theorem Face.Small.lin_lt {f : Face} (hf : f.Small) (x y z : EReal) : (f.lin x y z).toNat < 4194304 := by
  have := hf.lin x y z
  have := hf x y z
  omega

/-- What a code is, face by face. -/
theorem code_spec (v : BitVec 1) (x y z : EReal) :
    ((v = 1 ∧ front.on x y z = 1 → (code v x y z).toNat = (front.lin x y z).toNat)
        ∧ (¬(v = 1 ∧ front.on x y z = 1) → 4194304 ≤ (code v x y z).toNat))
      ∧ ((v = 1 ∧ back.on x y z = 1 → (code v x y z).toNat = 4194304 + (back.lin x y z).toNat)
        ∧ (¬(v = 1 ∧ back.on x y z = 1) → (code v x y z).toNat < 4194304 ∨ 8388608 ≤ (code v x y z).toNat))
      ∧ ((v = 1 ∧ left.on x y z = 1 → (code v x y z).toNat = 8388608 + (left.lin x y z).toNat)
        ∧ (¬(v = 1 ∧ left.on x y z = 1) → (code v x y z).toNat < 8388608 ∨ 12582912 ≤ (code v x y z).toNat))
      ∧ ((v = 1 ∧ right.on x y z = 1 → (code v x y z).toNat = 12582912 + (right.lin x y z).toNat)
        ∧ (¬(v = 1 ∧ right.on x y z = 1) → (code v x y z).toNat < 12582912 ∨ 16777216 ≤ (code v x y z).toNat))
      ∧ (code v x y z).toNat ≤ 16777216 :=
  choice (v := v) (front_small.lin_lt x y z) (back_small.lin_lt x y z) (left_small.lin_lt x y z)
    (right_small.lin_lt x y z) (on_excl x y z) (code v x y z) rfl

/-- The front face's codes come first. -/
theorem front_block : front.Block 0#32 4194304#32 where
  small := front_small
  hi_eq := rfl
  lo_le := by decide
  hit x y z h := by rw [(code_spec 1 x y z).1.1 ⟨rfl, h⟩]; simp
  miss v x y z h := Or.inr ((code_spec v x y z).1.2 h)

/-- Then the back face's. -/
theorem back_block : back.Block 4194304#32 8388608#32 where
  small := back_small
  hi_eq := rfl
  lo_le := by decide
  hit x y z h := (code_spec 1 x y z).2.1.1 ⟨rfl, h⟩
  miss v x y z h := (code_spec v x y z).2.1.2 h

/-- Then the left face's. -/
theorem left_block : left.Block 8388608#32 12582912#32 where
  small := left_small
  hi_eq := rfl
  lo_le := by decide
  hit x y z h := (code_spec 1 x y z).2.2.1.1 ⟨rfl, h⟩
  miss v x y z h := (code_spec v x y z).2.2.1.2 h

/-- Then the right face's. -/
theorem right_block : right.Block 12582912#32 16777216#32 where
  small := right_small
  hi_eq := rfl
  lo_le := by decide
  hit x y z h := (code_spec 1 x y z).2.2.2.1.1 ⟨rfl, h⟩
  miss v x y z h := (code_spec v x y z).2.2.2.1.2 h

/-- From the code of a drawn point each face reads the row and the column it files the point under. -/
theorem Face.Block.dec_one {f : Face} {lo hi : BitVec 32} (h : f.Block lo hi) (x y z : EReal) :
    decRow lo hi (code 1 x y z) = f.putRow x y z ∧ decCol lo hi (code 1 x y z) = f.putCol x y z := by
  have hl := h.lo_le
  have hh := h.hi_eq
  by_cases hon : f.on x y z = 1
  · have e := h.hit x y z hon
    rw [h.small.lin] at e
    have s := h.small x y z
    have d := dec_hit e hh hl s.1 s.2
    rw [d.1, d.2]
    unfold Face.putRow Face.putCol Scalar.select
    rw [if_pos hon, if_pos hon]
    exact ⟨rfl, rfl⟩
  · have d := dec_miss (h.miss 1 x y z fun a => hon a.2) (by omega) (by omega)
      (by have := (code_spec 1 x y z).2.2.2.2; omega)
    rw [d.1, d.2]
    unfold Face.putRow Face.putCol Scalar.select
    rw [if_neg hon, if_neg hon]
    exact ⟨rfl, rfl⟩

/-- From the code of a point not to be drawn each face reads the spare row and column. -/
theorem Face.Block.dec_zero {f : Face} {lo hi : BitVec 32} (h : f.Block lo hi) (x y z : EReal) :
    decRow lo hi (code 0 x y z) = 2048#32 ∧ decCol lo hi (code 0 x y z) = 2048#32 := by
  have hl := h.lo_le
  have hh := h.hi_eq
  exact dec_miss (h.miss 0 x y z fun a => absurd a.1 (by decide)) (by omega) (by omega)
    (by have := (code_spec 0 x y z).2.2.2.2; omega)

/-- The row and the column a face files a point under are at most 2048. -/
theorem Face.Small.put_le {f : Face} (h : f.Small) (x y z : EReal) :
    (f.putRow x y z).toNat ≤ 2048 ∧ (f.putCol x y z).toNat ≤ 2048 := by
  have s := h x y z
  unfold Face.putRow Face.putCol Scalar.select
  split_ifs
  · omega
  · decide

end Cert.Cube

end
-- ==== Proof.Paint.lean ====
/- The scatters of the two programs, at any extents: values painted one after another into an image at the row and the
   column an index table names, and values written as one window at the origin. -/
module

public import Idealize.ShloMosaic.Lib.Routing.OpsPair
public import Idealize.ShloMosaic.Lib.Routing.OpsSet
public import Idealize.ShloMosaic.Lib.Routing.Ops
public import Idealize.ShloMosaic.Lib.Pipeline.Value
public import Idealize.ShloMosaic.Lib.ValueIdx

@[expose] public section

namespace Cert.Cube

open Idealize.ShloMosaic Idealize.ShloMosaic.ValueIdx Idealize.ShloMosaic.Routing

variable {α : Type}

/-- One pixel `(p, q)` after painting the values of points `0, …, n - 1` in order: each point takes the place of what
    the pixel held when its row and its column are the pixel's. -/
def paint (row col : ℕ → BitVec 32) (val : ℕ → α) (z : α) (n p q : ℕ) : α :=
  (List.range n).foldl (fun a k => if (row k).toInt = (p : ℤ) ∧ (col k).toInt = (q : ℤ) then val k else a) z

/-- Points filed under the spare row change no pixel of the image. -/
theorem paint_add {row col : ℕ → BitVec 32} {val : ℕ → α} {z : α} {n m p q : ℕ} (hp : p < 2048)
    (h : ∀ k, n ≤ k → k < n + m → row k = 2048#32) :
    paint row col val z (n + m) p q = paint row col val z n p q := by
  unfold paint
  rw [List.range_add, List.foldl_append]
  generalize (List.range n).foldl _ z = a
  have key : ∀ (l : List ℕ) (a : α), (∀ k ∈ l, row k = 2048#32) →
      l.foldl (fun a k => if (row k).toInt = (p : ℤ) ∧ (col k).toInt = (q : ℤ) then val k else a) a = a := by
    intro l
    induction l with
    | nil => intro a _; rfl
    | cons k l ih =>
      intro a hl
      rw [List.foldl_cons, if_neg, ih a fun j hj => hl j (List.mem_cons_of_mem _ hj)]
      rintro ⟨e, _⟩
      rw [hl k List.mem_cons_self, show (2048#32 : BitVec 32).toInt = 2048 from by decide] at e
      omega
  refine key _ a fun k hk => ?_
  obtain ⟨j, hj, rfl⟩ := List.mem_map.1 hk
  exact h _ (Nat.le_add_right _ _) (by have := List.mem_range.1 hj; omega)

/-- Only the first `n` points count. -/
theorem paint_congr {row col row' col' : ℕ → BitVec 32} {val val' : ℕ → α} {z : α} {n p q : ℕ}
    (hr : ∀ k < n, row k = row' k) (hc : ∀ k < n, col k = col' k) (hv : ∀ k < n, val k = val' k) :
    paint row col val z n p q = paint row' col' val' z n p q := by
  unfold paint
  refine List.foldl_ext _ _ _ fun a k hk => ?_
  rw [hr k (List.mem_range.1 hk), hc k (List.mem_range.1 hk), hv k (List.mem_range.1 hk)]

/-- Update `k` of a scatter of scalars into a matrix, two index words each, lands where its two words say. -/
theorem lands_pair {R C N w : ℕ} (d : ScatterDims (shape2 R C) (shape2 N 2) (shape1 N)) (hiw : d.insertedWindowDims = [0, 1])
    (hsd : d.scatterDimsToOperandDims = [0, 1]) (hiv : d.indexVectorDim = 1) (idx : IVec (shape2 N 2) w) (k : Fin N)
    (r : Fin R) (c : Fin C) :
    d.resultIdx? (ix1 k) idx = some (ix2 r c) ↔ (idx (ix2 k 0)).toInt = r.val ∧ (idx (ix2 k 1)).toInt = c.val := by
  obtain ⟨uw, iw, sd, iv, wf⟩ := d
  dsimp only at hiw hsd hiv
  subst hiw hsd hiv
  have huw : uw = [] := List.eq_nil_of_length_eq_zero wf.2.2.2.2.2.2.1
  subst huw
  rw [resultIdx?_ix2]
  have w0 : ∀ q : Fin 2, ScatterDims.window (⟨[], [0, 1], [0, 1], 1, wf⟩ : ScatterDims (shape2 R C) (shape2 N 2) (shape1 N)) (ix1 k) q = 0 := by
    intro q
    unfold ScatterDims.window
    rw [dif_neg]
    intro h
    have := (List.mem_filter.1 h).2
    fin_cases q <;> simp at this
  have st : ∀ q : Fin 2, ScatterDims.start (⟨[], [0, 1], [0, 1], 1, wf⟩ : ScatterDims (shape2 R C) (shape2 N 2) (shape1 N)) (ix1 k) idx q
      = (idx (ix2 k q)).toInt := by
    intro q
    unfold ScatterDims.start
    rw [dif_pos (show q ∈ ([0, 1] : List (Fin 2)) by fin_cases q <;> simp)]
    refine congrArg (fun i => (idx i).toInt) (funext fun b => Fin.ext ?_)
    match b with
    | ⟨0, _⟩ => rfl
    | ⟨1, _⟩ =>
      show List.idxOf q ([0, 1] : List (Fin 2)) = q.val
      fin_cases q <;> rfl
  rw [w0 0, w0 1, st 0, st 1]
  simp

/-- Such a scatter, keeping the update, paints. -/
theorem scatter_paint {R C N : ℕ} (d : ScatterDims (shape2 R C) (shape2 N 2) (shape1 N)) (hiw : d.insertedWindowDims = [0, 1])
    (hsd : d.scatterDimsToOperandDims = [0, 1]) (hiv : d.indexVectorDim = 1) (x0 : (shape2 R C).Idx → α)
    (idx : IVec (shape2 N 2) 32) (upd : (shape1 N).Idx → α) (row col : ℕ → BitVec 32) (val : ℕ → α)
    (hr : ∀ k : Fin N, idx (ix2 k 0) = row k.val) (hc : ∀ k : Fin N, idx (ix2 k 1) = col k.val)
    (hv : ∀ k : Fin N, upd (ix1 k) = val k.val) (p : Fin R) (q : Fin C) :
    Host.scatter d (fun _ b => b) x0 idx upd (ix2 p q) = paint row col val (x0 (ix2 p q)) N p.val q.val := by
  rw [scatter_at]
  have hN := numel1 N
  have key : ∀ (M : ℕ) (hM : M = N) (g : α → Fin M → α) (g' : α → ℕ → α), (∀ a n, g a n = g' a n.val) →
      ∀ a, (List.finRange M).foldl g a = (List.range N).foldl g' a := by
    intro M hM g g' hg a
    subst hM
    rw [← List.map_coe_finRange_eq_range, List.foldl_map]
    exact List.foldl_ext _ _ _ fun a n _ => hg a n
  refine key _ hN _ _ (fun a n => ?_) _
  rw [symm1]
  have hl := lands_pair d hiw hsd hiv idx (n.cast hN) p q
  rw [hr, hc] at hl
  rw [hv]
  exact if_congr hl rfl rfl

/-- A table made of two columns side by side, read at either of them. -/
theorem two_cols {N : ℕ} (a b : (shape2 N 1).Idx → α) (h : Shape.Concatenates [shape2 N 1, shape2 N 1] (shape2 N 2) 1) (k : Fin N) :
    concatenate (shape2 N 2) 1 [⟨shape2 N 1, a⟩, ⟨shape2 N 1, b⟩] h (ix2 k 0) = a (ix2 k 0)
      ∧ concatenate (shape2 N 2) 1 [⟨shape2 N 1, a⟩, ⟨shape2 N 1, b⟩] h (ix2 k 1) = b (ix2 k 0) := by
  constructor
  · refine concatenate_pair_apply_left 1 a b h _ rfl (ix2 k 0) fun c => ?_
    match c with
    | ⟨0, _⟩ => rfl
    | ⟨1, _⟩ => rfl
  · refine concatenate_pair_apply_right 1 a b h _ rfl rfl (ix2 k 0) (fun c hc => ?_) rfl
    match c with
    | ⟨0, _⟩ => rfl
    | ⟨1, _⟩ => exact absurd rfl hc

/-- A face's image: the points' rows and columns, negative ones wrapped, side by side in an index table; the values
    scattered by it into a matrix with a spare row and a spare column, which are then cut off. At a pixel: the paint. -/
theorem face_image {N : ℕ} (d : ScatterDims (shape2 2049 2049) (shape2 N 2) (shape1 N)) (hiw : d.insertedWindowDims = [0, 1])
    (hsd : d.scatterDimsToOperandDims = [0, 1]) (hiv : d.indexVectorDim = 1)
    (hb : (shape1 N).BroadcastsInDim (shape2 N 1) (![0] : Fin 1 → Fin (shape2 N 1).rank))
    (hcat : Shape.Concatenates [shape2 N 1, shape2 N 1] (shape2 N 2) 1)
    (hsl : (shape2 2049 2049).Slices ![0, 0] (shape2 2048 2048)) (z0 : (shape2 2049 2049).Idx → α) (z : α) (hz : ∀ i, z0 i = z)
    (zr kr zc kc r c : IVec (shape1 N) 32) (hzr : ∀ i, zr i = 0#32) (hzc : ∀ i, zc i = 0#32)
    (upd : (shape1 N).Idx → α) (row col : ℕ → BitVec 32) (val : ℕ → α)
    (hr : ∀ k : Fin N, r (ix1 k) = row k.val) (hc : ∀ k : Fin N, c (ix1 k) = col k.val) (hv : ∀ k : Fin N, upd (ix1 k) = val k.val)
    (hrs : ∀ k, (row k).toNat ≤ 2048) (hcs : ∀ k, (col k).toNat ≤ 2048) (p q : Fin 2048) :
    extractStridedSlice (shape2 2048 2048) ![0, 0]
        (Host.scatter d (fun _ b => b) z0
          (concatenate (shape2 N 2) 1
            [⟨shape2 N 1, broadcastInDim (shape2 N 1) ![0] hb (select (cmpi .slt r zr) (addi r kr) r)⟩,
              ⟨shape2 N 1, broadcastInDim (shape2 N 1) ![0] hb (select (cmpi .slt c zc) (addi c kc) c)⟩] hcat) upd) hsl (ix2 p q)
      = paint row col val z N p.val q.val := by
  have wrap : ∀ (x zz kk : IVec (shape1 N) 32) (f : ℕ → BitVec 32), (∀ i, zz i = 0#32) → (∀ k : Fin N, x (ix1 k) = f k.val) →
      (∀ k, (f k).toNat ≤ 2048) → ∀ k : Fin N,
      broadcastInDim (shape2 N 1) ![0] hb (select (cmpi .slt x zz) (addi x kk) x) (ix2 k 0) = f k.val := by
    intro x zz kk f hz hx hs k
    rw [bcCol]
    show Scalar.select (IntOp.cmpi .slt (x (ix1 k)) (zz (ix1 k))) (IntOp.addi (x (ix1 k)) (kk (ix1 k))) (x (ix1 k)) = _
    rw [hz, hx, wrap_of_lt]
    have := hs k.val
    norm_num
    omega
  have ht := fun k => two_cols (broadcastInDim (shape2 N 1) ![0] hb (select (cmpi .slt r zr) (addi r kr) r))
    (broadcastInDim (shape2 N 1) ![0] hb (select (cmpi .slt c zc) (addi c kc) c)) hcat k
  generalize concatenate (shape2 N 2) 1 [⟨shape2 N 1, broadcastInDim (shape2 N 1) ![0] hb (select (cmpi .slt r zr) (addi r kr) r)⟩,
    ⟨shape2 N 1, broadcastInDim (shape2 N 1) ![0] hb (select (cmpi .slt c zc) (addi c kc) c)⟩] hcat = t at ht ⊢
  have key := scatter_paint d hiw hsd hiv z0 t upd row col val (fun k => (ht k).1.trans (wrap r zr kr row hzr hr hrs k))
    (fun k => (ht k).2.trans (wrap c zc kc col hzc hc hcs k)) hv ⟨p.val, by omega⟩ ⟨q.val, by omega⟩
  rw [hz] at key
  rw [← key]
  generalize Host.scatter d (fun _ b => b) z0 t upd = y
  refine extractStridedSlice_apply (t := shape2 2048 2048) ![0, 0] y hsl _ _ fun a => ?_
  match a with
  | ⟨0, _⟩ => exact (Nat.zero_add _).symm
  | ⟨1, _⟩ => exact (Nat.zero_add _).symm

/-- A vector of `N` written as one window at the start of a vector of `R`, read at one of its entries. -/
theorem scatter_front {R N : ℕ} (d : ScatterDims (shape1 R) (shape1 1) (shape1 N)) (huw : d.updateWindowDims = [0])
    (hiw : d.insertedWindowDims = []) (hsd : d.scatterDimsToOperandDims = [0]) (hiv : d.indexVectorDim = 0)
    (x0 : (shape1 R).Idx → α) (idx : IVec (shape1 1) 32) (hidx : ∀ i, idx i = 0#32) (upd : (shape1 N).Idx → α)
    (k : Fin N) (r : Fin R) (hk : r.val = k.val) :
    Host.scatter d (fun _ b => b) x0 idx upd (ix1 r) = upd (ix1 k) := by
  obtain ⟨uw, iw, sd, iv, wf⟩ := d
  dsimp only at huw hiw hsd hiv
  subst huw hiw hsd hiv
  have lands : ∀ j : Fin N, ScatterDims.resultIdx? (⟨[0], [], [0], 0, wf⟩ : ScatterDims (shape1 R) (shape1 1) (shape1 N)) (ix1 j) idx
      = some (ix1 r) ↔ j.val = r.val := by
    intro j
    rw [resultIdx?_ix1]
    have w0 : ScatterDims.window (⟨[0], [], [0], 0, wf⟩ : ScatterDims (shape1 R) (shape1 1) (shape1 N)) (ix1 j) 0 = j.val := rfl
    have s0 : ScatterDims.start (⟨[0], [], [0], 0, wf⟩ : ScatterDims (shape1 R) (shape1 1) (shape1 N)) (ix1 j) idx 0 = 0 := by
      unfold ScatterDims.start
      split
      · rw [hidx]; rfl
      · rfl
    rw [w0, s0]
    omega
  refine scatter_set_hit _ _ _ _ _ _ (fun j hj => ?_) (ix1 k) ((lands k).2 hk.symm)
  obtain ⟨j, rfl⟩ : ∃ i, j = ix1 i := ⟨j 0, eq_ix1 j⟩
  have := (lands j).1 hj
  rw [show j = k from Fin.ext (this.trans hk)]

/-- A vector written as one window at the start of the only row of a matrix, read at one of its entries. -/
theorem scatter_row {C N : ℕ} (d : ScatterDims (shape2 1 C) (shape1 2) (shape1 N)) (huw : d.updateWindowDims = [0])
    (hiw : d.insertedWindowDims = [0]) (hsd : d.scatterDimsToOperandDims = [0, 1]) (hiv : d.indexVectorDim = 0)
    (x0 : (shape2 1 C).Idx → α) (idx : IVec (shape1 2) 32) (hidx : ∀ i, idx i = 0#32) (upd : (shape1 N).Idx → α)
    (k : Fin N) (c : Fin C) (hk : c.val = k.val) :
    Host.scatter d (fun _ b => b) x0 idx upd (ix2 0 c) = upd (ix1 k) := by
  obtain ⟨uw, iw, sd, iv, wf⟩ := d
  dsimp only at huw hiw hsd hiv
  subst huw hiw hsd hiv
  have lands : ∀ j : Fin N, ScatterDims.resultIdx? (⟨[0], [0], [0, 1], 0, wf⟩ : ScatterDims (shape2 1 C) (shape1 2) (shape1 N)) (ix1 j) idx
      = some (ix2 0 c) ↔ j.val = c.val := by
    intro j
    rw [resultIdx?_ix2]
    have w0 : ScatterDims.window (⟨[0], [0], [0, 1], 0, wf⟩ : ScatterDims (shape2 1 C) (shape1 2) (shape1 N)) (ix1 j) 0 = 0 := rfl
    have w1 : ScatterDims.window (⟨[0], [0], [0, 1], 0, wf⟩ : ScatterDims (shape2 1 C) (shape1 2) (shape1 N)) (ix1 j) 1 = j.val := rfl
    have s0 : ∀ a, ScatterDims.start (⟨[0], [0], [0, 1], 0, wf⟩ : ScatterDims (shape2 1 C) (shape1 2) (shape1 N)) (ix1 j) idx a = 0 := by
      intro a
      unfold ScatterDims.start
      split
      · rw [hidx]; rfl
      · rfl
    rw [w0, w1, s0, s0]
    constructor
    · rintro ⟨_, h⟩; omega
    · intro h; exact ⟨rfl, by omega⟩
  refine scatter_set_hit _ _ _ _ _ _ (fun j hj => ?_) (ix1 k) ((lands k).2 hk.symm)
  obtain ⟨j, rfl⟩ : ∃ i, j = ix1 i := ⟨j 0, eq_ix1 j⟩
  have := (lands j).1 hj
  rw [show j = k from Fin.ext (this.trans hk)]

end Cert.Cube

end
-- ==== Proof.Image.lean ====
/- A face's image of a cloud of points, as a function of the points' array and the camera's. -/
module

public import proofs.«01_k».proof.Proof.Codes
public import proofs.«01_k».proof.Proof.Paint

@[expose] public section

noncomputable section

namespace Cert.Cube

open Idealize.ShloMosaic Idealize.ShloMosaic.ValueIdx Idealize.ShloMosaic.Routing

/-- The camera an argument array holds. -/
def camOf (x1 : (shape1 7).Idx → EReal) : Cam :=
  ⟨x1 (ix1 0), x1 (ix1 1), x1 (ix1 2), x1 (ix1 3), x1 (ix1 4), x1 (ix1 5), x1 (ix1 6)⟩

variable (x0 : (shape2 1000000 4).Idx → EReal) (x1 : (shape1 7).Idx → EReal)

/-- A point's latitude. -/
abbrev lat (k : Fin 1000000) : EReal := x0 (ix2 k 0)
/-- A point's longitude. -/
abbrev lon (k : Fin 1000000) : EReal := x0 (ix2 k 1)
/-- A point's altitude. -/
abbrev alt (k : Fin 1000000) : EReal := x0 (ix2 k 2)
/-- A point's x on the camera's axes. -/
def ptX (k : Fin 1000000) : EReal := (camOf x1).x (lat x0 k) (lon x0 k) (alt x0 k)
/-- A point's y on the camera's axes. -/
def ptY (k : Fin 1000000) : EReal := (camOf x1).y (lat x0 k) (lon x0 k) (alt x0 k)
/-- A point's z on the camera's axes. -/
def ptZ (k : Fin 1000000) : EReal := (camOf x1).z (lat x0 k) (lon x0 k) (alt x0 k)

/-- The row a face files point `n` under; the spare row past the last point. -/
def rows (f : Face) (n : ℕ) : BitVec 32 :=
  if h : n < 1000000 then f.putRow (ptX x0 x1 ⟨n, h⟩) (ptY x0 x1 ⟨n, h⟩) (ptZ x0 x1 ⟨n, h⟩) else 2048#32
/-- The column a face files point `n` under; the spare column past the last point. -/
def cols (f : Face) (n : ℕ) : BitVec 32 :=
  if h : n < 1000000 then f.putCol (ptX x0 x1 ⟨n, h⟩) (ptY x0 x1 ⟨n, h⟩) (ptZ x0 x1 ⟨n, h⟩) else 2048#32
/-- The value of point `n`. -/
def vals (n : ℕ) : EReal := if h : n < 1000000 then x0 (ix2 ⟨n, h⟩ 3) else 0

/-- A face's image: the points' values painted in order. -/
def image (f : Face) : (shape2 2048 2048).Idx → EReal := fun i =>
  paint (rows x0 x1 f) (cols x0 x1 f) (vals x0) (lit 0x00000000#32) 1000000 (i 0).val (i 1).val

/-- Rows are at most the spare one. -/
theorem rows_le {f : Face} (hf : f.Small) (n : ℕ) : (rows x0 x1 f n).toNat ≤ 2048 := by
  unfold rows
  split
  · exact (hf.put_le _ _ _).1
  · decide

/-- Columns are at most the spare one. -/
theorem cols_le {f : Face} (hf : f.Small) (n : ℕ) : (cols x0 x1 f n).toNat ≤ 2048 := by
  unfold cols
  split
  · exact (hf.put_le _ _ _).2
  · decide

/-- The row of one of the points. -/
theorem rows_at (f : Face) (k : Fin 1000000) : rows x0 x1 f k.val = f.putRow (ptX x0 x1 k) (ptY x0 x1 k) (ptZ x0 x1 k) :=
  dif_pos k.isLt

/-- The column of one of the points. -/
theorem cols_at (f : Face) (k : Fin 1000000) : cols x0 x1 f k.val = f.putCol (ptX x0 x1 k) (ptY x0 x1 k) (ptZ x0 x1 k) :=
  dif_pos k.isLt

/-- The value of one of the points. -/
theorem vals_at (k : Fin 1000000) : vals x0 k.val = x0 (ix2 k 3) := dif_pos k.isLt

end Cert.Cube

end

end
-- ==== Proof.RefPoint.lean ====
/- The reference program, point by point: what each of its stages holds at point `k` is the plain maths of that point. -/
module

public import proofs.«01_k».proof.Proof.Image
public import proofs.«01_k».proof.Proof.Gen.ReferenceIdeal.Read

@[expose] public section

noncomputable section

namespace Cert.Cube.Ref

open Idealize.ShloMosaic Idealize.ShloMosaic.ValueIdx Idealize.ShloMosaic.Routing
open Cert.ReferenceIdeal Cert.ReferenceIdeal.Gen Cert.ReferenceIdeal.Read

/-- One entry of the camera's array, sliced out and reshaped to a scalar. -/
theorem scalar_at {α : Type} (x : (shape1 7).Idx → α) (o : ℕ) (ho : o < 7) (h : (shape1 7).Slices ![o] (shape1 1))
    (h' : (shape1 1).ShapeCasts S_) (j : S_.Idx) :
    shapeCast S_ (extractStridedSlice (shape1 1) ![o] x h) h' j = x (ix1 ⟨o, ho⟩) := by
  rw [shapeCast_apply _ h' j (ix1 (0 : Fin 1)) (by rw [Shape.rowMajor_val_one]; have := ((Shape.rowMajor S_) j).isLt; show 0 = _; have e : S_.numel = 1 := rfl; omega)]
  exact slice1 o x h 0 (by omega)

/-- One column of the points' array, sliced out and reshaped to a vector. -/
theorem column_at {α : Type} {N : ℕ} (x : (shape2 N 4).Idx → α) (o : ℕ) (ho : o < 4) (h : (shape2 N 4).Slices ![0, o] (shape2 N 1))
    (h' : (shape2 N 1).ShapeCasts (shape1 N)) (k : Fin N) :
    shapeCast (shape1 N) (extractStridedSlice (shape2 N 1) ![0, o] x h) h' (ix1 k) = x (ix2 k ⟨o, ho⟩) := by
  rw [cast21 _ h' k (0 : Fin 1) k (by simp)]
  refine extractStridedSlice_apply ![0, o] x h _ _ fun a => ?_
  match a with
  | ⟨0, _⟩ => exact (Nat.zero_add _).symm
  | ⟨1, _⟩ => rfl

variable (x0 : S1000000x4.Idx → EReal) (x1 : S7.Idx → EReal)

/-- The camera's latitude. -/
theorem cam_lat (j : S_.Idx) : val_main_v9 (F := Ideal) x1 j = (camOf x1).lat := scalar_at x1 0 (by decide) _ _ j
/-- The camera's longitude. -/
theorem cam_lon (j : S_.Idx) : val_main_v11 (F := Ideal) x1 j = (camOf x1).lon := scalar_at x1 1 (by decide) _ _ j
/-- The camera's altitude. -/
theorem cam_alt (j : S_.Idx) : val_main_v13 (F := Ideal) x1 j = (camOf x1).alt := scalar_at x1 2 (by decide) _ _ j
/-- The quaternion's scalar part. -/
theorem cam_qs (j : S_.Idx) : val_main_v15 (F := Ideal) x1 j = (camOf x1).qs := scalar_at x1 3 (by decide) _ _ j
/-- The quaternion's first vector part. -/
theorem cam_qx (j : S_.Idx) : val_main_v17 (F := Ideal) x1 j = (camOf x1).qx := scalar_at x1 4 (by decide) _ _ j
/-- Its second. -/
theorem cam_qy (j : S_.Idx) : val_main_v19 (F := Ideal) x1 j = (camOf x1).qy := scalar_at x1 5 (by decide) _ _ j
/-- Its third. -/
theorem cam_qz (j : S_.Idx) : val_main_v21 (F := Ideal) x1 j = (camOf x1).qz := scalar_at x1 6 (by decide) _ _ j

/-- A point's latitude. -/
theorem pt_lat (k : Fin 1000000) : val_main_v1 (F := Ideal) x0 (ix1 k) = lat x0 k := column_at x0 0 (by decide) _ _ k
/-- A point's longitude. -/
theorem pt_lon (k : Fin 1000000) : val_main_v3 (F := Ideal) x0 (ix1 k) = lon x0 k := column_at x0 1 (by decide) _ _ k
/-- A point's altitude. -/
theorem pt_alt (k : Fin 1000000) : val_main_v5 (F := Ideal) x0 (ix1 k) = alt x0 k := column_at x0 2 (by decide) _ _ k
/-- A point's value. -/
theorem pt_val (k : Fin 1000000) : val_main_v7 (F := Ideal) x0 (ix1 k) = x0 (ix2 k 3) := column_at x0 3 (by decide) _ _ k

/-- The camera's earth-centred coordinates. -/
theorem cam_ecef (j : S_.Idx) :
    val_main_v60 (F := Ideal) x1 j = ecefX (camOf x1).lat (camOf x1).lon (camOf x1).alt
      ∧ val_main_v64 (F := Ideal) x1 j = ecefY (camOf x1).lat (camOf x1).lon (camOf x1).alt
      ∧ val_main_v67 (F := Ideal) x1 j = ecefZ (camOf x1).lat (camOf x1).alt := by
  rw [← cam_lat x1 j, ← cam_lon x1 j, ← cam_alt x1 j]
  exact ⟨rfl, rfl, rfl⟩

/-- The point's offset from the camera, earth-centred. -/
theorem pt_delta (k : Fin 1000000) :
    val_main_v69 (F := Ideal) x0 x1 (ix1 k) = (camOf x1).dx (lat x0 k) (lon x0 k) (alt x0 k)
      ∧ val_main_v71 (F := Ideal) x0 x1 (ix1 k) = (camOf x1).dy (lat x0 k) (lon x0 k) (alt x0 k)
      ∧ val_main_v73 (F := Ideal) x0 x1 (ix1 k) = (camOf x1).dz (lat x0 k) (alt x0 k) := by
  unfold Cam.dx Cam.dy Cam.dz
  rw [val_main_v69_apply, val_main_v71_apply, val_main_v73_apply, val_main_v68_apply, val_main_v70_apply, val_main_v72_apply,
    (cam_ecef x1 _).1, (cam_ecef x1 _).2.1, (cam_ecef x1 _).2.2, ← pt_lat, ← pt_lon, ← pt_alt]
  exact ⟨rfl, rfl, rfl⟩

/-- The point's offset in the camera's east-north-up frame. -/
theorem pt_enu (k : Fin 1000000) :
    val_main_v85 (F := Ideal) x0 x1 (ix1 k) = (camOf x1).e (lat x0 k) (lon x0 k) (alt x0 k)
      ∧ val_main_v96 (F := Ideal) x0 x1 (ix1 k) = (camOf x1).n (lat x0 k) (lon x0 k) (alt x0 k)
      ∧ val_main_v106 (F := Ideal) x0 x1 (ix1 k) = (camOf x1).u (lat x0 k) (lon x0 k) (alt x0 k) := by
  have lo := fun j => cam_lon x1 j
  have la := fun j => cam_lat x1 j
  have h81 : val_main_v81 (F := Ideal) x1 (ix1 k) = -Ideal.sin (rad (camOf x1).lon) := by
    rw [val_main_v81_apply, ← lo (idx_main_v81 (ix1 k))]; rfl
  have h83 : val_main_v83 (F := Ideal) x1 (ix1 k) = Ideal.cos (rad (camOf x1).lon) := by
    rw [val_main_v83_apply, ← lo (idx_main_v83 (ix1 k))]; rfl
  have h88 : val_main_v88 (F := Ideal) x1 (ix1 k) = -Ideal.sin (rad (camOf x1).lat) * Ideal.cos (rad (camOf x1).lon) := by
    rw [val_main_v88_apply, ← lo (idx_main_v88 (ix1 k)), ← la (idx_main_v88 (ix1 k))]; rfl
  have h91 : val_main_v91 (F := Ideal) x1 (ix1 k) = Ideal.sin (rad (camOf x1).lat) * Ideal.sin (rad (camOf x1).lon) := by
    rw [val_main_v91_apply, ← lo (idx_main_v91 (ix1 k)), ← la (idx_main_v91 (ix1 k))]; rfl
  have h94 : val_main_v94 (F := Ideal) x1 (ix1 k) = Ideal.cos (rad (camOf x1).lat) := by
    rw [val_main_v94_apply, ← la (idx_main_v94 (ix1 k))]; rfl
  have h98 : val_main_v98 (F := Ideal) x1 (ix1 k) = Ideal.cos (rad (camOf x1).lat) * Ideal.cos (rad (camOf x1).lon) := by
    rw [val_main_v98_apply, ← lo (idx_main_v98 (ix1 k)), ← la (idx_main_v98 (ix1 k))]; rfl
  have h101 : val_main_v101 (F := Ideal) x1 (ix1 k) = Ideal.cos (rad (camOf x1).lat) * Ideal.sin (rad (camOf x1).lon) := by
    rw [val_main_v101_apply, ← lo (idx_main_v101 (ix1 k)), ← la (idx_main_v101 (ix1 k))]; rfl
  have h104 : val_main_v104 (F := Ideal) x1 (ix1 k) = Ideal.sin (rad (camOf x1).lat) := by
    rw [val_main_v104_apply, ← la (idx_main_v104 (ix1 k))]; rfl
  obtain ⟨hx, hy, hz⟩ := pt_delta x0 x1 k
  refine ⟨?_, ?_, ?_⟩
  · show val_main_v81 (F := Ideal) x1 (ix1 k) * val_main_v69 (F := Ideal) x0 x1 (ix1 k) + val_main_v83 (F := Ideal) x1 (ix1 k) * val_main_v71 (F := Ideal) x0 x1 (ix1 k) = _
    rw [h81, h83, hx, hy]; rfl
  · show val_main_v88 (F := Ideal) x1 (ix1 k) * val_main_v69 (F := Ideal) x0 x1 (ix1 k) - val_main_v91 (F := Ideal) x1 (ix1 k) * val_main_v71 (F := Ideal) x0 x1 (ix1 k) + val_main_v94 (F := Ideal) x1 (ix1 k) * val_main_v73 (F := Ideal) x0 x1 (ix1 k) = _
    rw [h88, h91, h94, hx, hy, hz]; rfl
  · show val_main_v98 (F := Ideal) x1 (ix1 k) * val_main_v69 (F := Ideal) x0 x1 (ix1 k) + val_main_v101 (F := Ideal) x1 (ix1 k) * val_main_v71 (F := Ideal) x0 x1 (ix1 k) + val_main_v104 (F := Ideal) x1 (ix1 k) * val_main_v73 (F := Ideal) x0 x1 (ix1 k) = _
    rw [h98, h101, h104, hx, hy, hz]; rfl

/-- The camera's normalized quaternion. -/
theorem cam_quat (j : S_.Idx) :
    val_main_v117 (F := Ideal) x1 j = (camOf x1).a ∧ val_main_v118 (F := Ideal) x1 j = (camOf x1).b
      ∧ val_main_v119 (F := Ideal) x1 j = (camOf x1).c ∧ val_main_v120 (F := Ideal) x1 j = (camOf x1).d := by
  unfold Cam.a Cam.b Cam.c Cam.d Cam.norm
  rw [← cam_qs x1 j, ← cam_qx x1 j, ← cam_qy x1 j, ← cam_qz x1 j]
  exact ⟨rfl, rfl, rfl, rfl⟩

/-- The point's coordinates on the camera's axes. -/
theorem pt_xyz (k : Fin 1000000) :
    val_main_v141 (F := Ideal) x0 x1 (ix1 k) = (camOf x1).x (lat x0 k) (lon x0 k) (alt x0 k)
      ∧ val_main_v162 (F := Ideal) x0 x1 (ix1 k) = (camOf x1).y (lat x0 k) (lon x0 k) (alt x0 k)
      ∧ val_main_v183 (F := Ideal) x0 x1 (ix1 k) = (camOf x1).z (lat x0 k) (lon x0 k) (alt x0 k) := by
  have qa := fun j => (cam_quat x1 j).1
  have qb := fun j => (cam_quat x1 j).2.1
  have qc := fun j => (cam_quat x1 j).2.2.1
  have qd := fun j => (cam_quat x1 j).2.2.2
  have h126 : val_main_v126 (F := Ideal) x1 (ix1 k) = lit 0x3F800000#32 - lit 0x40000000#32 * ((camOf x1).c * (camOf x1).c + (camOf x1).d * (camOf x1).d) := by
    rw [val_main_v126_apply, ← qc (idx_main_v126 (ix1 k)), ← qd (idx_main_v126 (ix1 k))]; rfl
  have h132 : val_main_v132 (F := Ideal) x1 (ix1 k) = lit 0x40000000#32 * ((camOf x1).b * (camOf x1).c - (camOf x1).d * (camOf x1).a) := by
    rw [val_main_v132_apply, ← qa (idx_main_v132 (ix1 k)), ← qb (idx_main_v132 (ix1 k)), ← qc (idx_main_v132 (ix1 k)), ← qd (idx_main_v132 (ix1 k))]; rfl
  have h139 : val_main_v139 (F := Ideal) x1 (ix1 k) = lit 0x40000000#32 * ((camOf x1).b * (camOf x1).d + (camOf x1).c * (camOf x1).a) := by
    rw [val_main_v139_apply, ← qa (idx_main_v139 (ix1 k)), ← qb (idx_main_v139 (ix1 k)), ← qc (idx_main_v139 (ix1 k)), ← qd (idx_main_v139 (ix1 k))]; rfl
  have h146 : val_main_v146 (F := Ideal) x1 (ix1 k) = lit 0x40000000#32 * ((camOf x1).b * (camOf x1).c + (camOf x1).d * (camOf x1).a) := by
    rw [val_main_v146_apply, ← qa (idx_main_v146 (ix1 k)), ← qb (idx_main_v146 (ix1 k)), ← qc (idx_main_v146 (ix1 k)), ← qd (idx_main_v146 (ix1 k))]; rfl
  have h153 : val_main_v153 (F := Ideal) x1 (ix1 k) = lit 0x3F800000#32 - lit 0x40000000#32 * ((camOf x1).b * (camOf x1).b + (camOf x1).d * (camOf x1).d) := by
    rw [val_main_v153_apply, ← qb (idx_main_v153 (ix1 k)), ← qd (idx_main_v153 (ix1 k))]; rfl
  have h160 : val_main_v160 (F := Ideal) x1 (ix1 k) = lit 0x40000000#32 * ((camOf x1).c * (camOf x1).d - (camOf x1).b * (camOf x1).a) := by
    rw [val_main_v160_apply, ← qa (idx_main_v160 (ix1 k)), ← qb (idx_main_v160 (ix1 k)), ← qc (idx_main_v160 (ix1 k)), ← qd (idx_main_v160 (ix1 k))]; rfl
  have h167 : val_main_v167 (F := Ideal) x1 (ix1 k) = lit 0x40000000#32 * ((camOf x1).b * (camOf x1).d - (camOf x1).c * (camOf x1).a) := by
    rw [val_main_v167_apply, ← qa (idx_main_v167 (ix1 k)), ← qb (idx_main_v167 (ix1 k)), ← qc (idx_main_v167 (ix1 k)), ← qd (idx_main_v167 (ix1 k))]; rfl
  have h173 : val_main_v173 (F := Ideal) x1 (ix1 k) = lit 0x40000000#32 * ((camOf x1).c * (camOf x1).d + (camOf x1).b * (camOf x1).a) := by
    rw [val_main_v173_apply, ← qa (idx_main_v173 (ix1 k)), ← qb (idx_main_v173 (ix1 k)), ← qc (idx_main_v173 (ix1 k)), ← qd (idx_main_v173 (ix1 k))]; rfl
  have h181 : val_main_v181 (F := Ideal) x1 (ix1 k) = lit 0x3F800000#32 - lit 0x40000000#32 * ((camOf x1).b * (camOf x1).b + (camOf x1).c * (camOf x1).c) := by
    rw [val_main_v181_apply, ← qb (idx_main_v181 (ix1 k)), ← qc (idx_main_v181 (ix1 k))]; rfl
  obtain ⟨he, hn, hu⟩ := pt_enu x0 x1 k
  refine ⟨?_, ?_, ?_⟩
  · show val_main_v126 (F := Ideal) x1 (ix1 k) * val_main_v85 (F := Ideal) x0 x1 (ix1 k) + val_main_v132 (F := Ideal) x1 (ix1 k) * val_main_v96 (F := Ideal) x0 x1 (ix1 k) + val_main_v139 (F := Ideal) x1 (ix1 k) * val_main_v106 (F := Ideal) x0 x1 (ix1 k) = _
    rw [h126, h132, h139, he, hn, hu]; rfl
  · show val_main_v146 (F := Ideal) x1 (ix1 k) * val_main_v85 (F := Ideal) x0 x1 (ix1 k) + val_main_v153 (F := Ideal) x1 (ix1 k) * val_main_v96 (F := Ideal) x0 x1 (ix1 k) + val_main_v160 (F := Ideal) x1 (ix1 k) * val_main_v106 (F := Ideal) x0 x1 (ix1 k) = _
    rw [h146, h153, h160, he, hn, hu]; rfl
  · show val_main_v167 (F := Ideal) x1 (ix1 k) * val_main_v85 (F := Ideal) x0 x1 (ix1 k) + val_main_v173 (F := Ideal) x1 (ix1 k) * val_main_v96 (F := Ideal) x0 x1 (ix1 k) + val_main_v181 (F := Ideal) x1 (ix1 k) * val_main_v106 (F := Ideal) x0 x1 (ix1 k) = _
    rw [h167, h173, h181, he, hn, hu]; rfl

/-- What the reference asks of a face's mask, rows and columns: that they are the face's of the point. -/
def Faces (f : Face) (r c : S1000000.Idx → BitVec 32) : Prop :=
  ∀ k : Fin 1000000, r (ix1 k) = f.putRow (val_main_v141 (F := Ideal) x0 x1 (ix1 k)) (val_main_v162 (F := Ideal) x0 x1 (ix1 k)) (val_main_v183 (F := Ideal) x0 x1 (ix1 k))
    ∧ c (ix1 k) = f.putCol (val_main_v141 (F := Ideal) x0 x1 (ix1 k)) (val_main_v162 (F := Ideal) x0 x1 (ix1 k)) (val_main_v183 (F := Ideal) x0 x1 (ix1 k))

/-- The front face's rows and columns. -/
theorem ref_front : Faces x0 x1 front (val_main_v280 (F := Ideal) x0 x1) (val_main_v281 (F := Ideal) x0 x1) := fun _ => ⟨rfl, rfl⟩
/-- The back face's rows and columns. -/
theorem ref_back : Faces x0 x1 back (val_main_v304 (F := Ideal) x0 x1) (val_main_v305 (F := Ideal) x0 x1) := fun _ => ⟨rfl, rfl⟩
/-- The left face's rows and columns. -/
theorem ref_left : Faces x0 x1 left (val_main_v352 (F := Ideal) x0 x1) (val_main_v353 (F := Ideal) x0 x1) := fun _ => ⟨rfl, rfl⟩
/-- The right face's rows and columns. -/
theorem ref_right : Faces x0 x1 right (val_main_v328 (F := Ideal) x0 x1) (val_main_v329 (F := Ideal) x0 x1) := fun _ => ⟨rfl, rfl⟩

end Cert.Cube.Ref

end

end
-- ==== Proof.RefImage.lean ====
/- The reference program's four results are the four faces' images. -/
module

public import proofs.«01_k».proof.Proof.RefPoint

@[expose] public section

noncomputable section

namespace Cert.Cube.Ref

open Idealize.ShloMosaic Idealize.ShloMosaic.ValueIdx Idealize.ShloMosaic.Routing
open Cert.ReferenceIdeal Cert.ReferenceIdeal.Gen Cert.ReferenceIdeal.Read

variable (x0 : S1000000x4.Idx → EReal) (x1 : S7.Idx → EReal)

/-- Rows and columns that are the face's of each point are those the face's image is painted by. -/
theorem Faces.at {f : Face} {r c : S1000000.Idx → BitVec 32} (h : Faces x0 x1 f r c) :
    (∀ k : Fin 1000000, r (ix1 k) = rows x0 x1 f k.val) ∧ (∀ k : Fin 1000000, c (ix1 k) = cols x0 x1 f k.val) := by
  constructor
  · intro k
    rw [(h k).1, (pt_xyz x0 x1 k).1, (pt_xyz x0 x1 k).2.1, (pt_xyz x0 x1 k).2.2, rows_at]; rfl
  · intro k
    rw [(h k).2, (pt_xyz x0 x1 k).1, (pt_xyz x0 x1 k).2.1, (pt_xyz x0 x1 k).2.2, cols_at]; rfl

/-- A face of the reference: scattered by its rows and its columns, it is the face's image. -/
theorem ref_image {f : Face} (hf : f.Small) {r c zr kr zc kc : S1000000.Idx → BitVec 32} (h : Faces x0 x1 f r c)
    (z0 : S2049x2049.Idx → EReal) (hz : ∀ i, z0 i = lit 0x00000000#32) (hzr : ∀ i, zr i = 0#32) (hzc : ∀ i, zc i = 0#32) :
    extractStridedSlice S2048x2048 ![0, 0]
        (Host.scatter scatter_S2049x2049_S1000000x2_S1000000_n_01_01_1 (fun _ b => b) z0
          (concatenate S1000000x2 1
            [⟨S1000000x1, broadcastInDim S1000000x1 ![0] bcast_S1000000_S1000000x1_0 (select (cmpi .slt r zr) (addi r kr) r)⟩,
              ⟨S1000000x1, broadcastInDim S1000000x1 ![0] bcast_S1000000_S1000000x1_0 (select (cmpi .slt c zc) (addi c kc) c)⟩]
            concatenates_S1000000x1_S1000000x1_S1000000x2_d1) (val_main_v7 (F := Ideal) x0)) slices_S2049x2049_S2048x2048_0_0
      = image x0 x1 f := by
  funext i
  obtain ⟨p, q, rfl⟩ : ∃ p q, i = ix2 p q := ⟨i 0, i 1, eq_ix2 i⟩
  exact face_image _ rfl rfl rfl _ _ _ z0 _ hz zr kr zc kc r c hzr hzc _ _ _ (vals x0) (h.at x0 x1).1 (h.at x0 x1).2
    (fun k => (pt_val x0 k).trans (vals_at x0 k).symm) (rows_le x0 x1 hf) (cols_le x0 x1 hf) p q

/-- The front face. -/
theorem front_result : val_main_v297 (F := Ideal) x0 x1 = image x0 x1 front :=
  ref_image x0 x1 front_small (ref_front x0 x1) (val_main_v282 (F := Ideal)) (fun _ => rfl)
    (zr := val_main_v283 (F := Ideal)) (kr := val_main_v285 (F := Ideal)) (zc := val_main_v288 (F := Ideal)) (kc := val_main_v290 (F := Ideal))
    (fun _ => rfl) (fun _ => rfl)
/-- The back face. -/
theorem back_result : val_main_v321 (F := Ideal) x0 x1 = image x0 x1 back :=
  ref_image x0 x1 back_small (ref_back x0 x1) (val_main_v306 (F := Ideal)) (fun _ => rfl)
    (zr := val_main_v307 (F := Ideal)) (kr := val_main_v309 (F := Ideal)) (zc := val_main_v312 (F := Ideal)) (kc := val_main_v314 (F := Ideal))
    (fun _ => rfl) (fun _ => rfl)
/-- The right face. -/
theorem right_result : val_main_v345 (F := Ideal) x0 x1 = image x0 x1 right :=
  ref_image x0 x1 right_small (ref_right x0 x1) (val_main_v330 (F := Ideal)) (fun _ => rfl)
    (zr := val_main_v331 (F := Ideal)) (kr := val_main_v333 (F := Ideal)) (zc := val_main_v336 (F := Ideal)) (kc := val_main_v338 (F := Ideal))
    (fun _ => rfl) (fun _ => rfl)
/-- The left face. -/
theorem left_result : val_main_v369 (F := Ideal) x0 x1 = image x0 x1 left :=
  ref_image x0 x1 left_small (ref_left x0 x1) (val_main_v354 (F := Ideal)) (fun _ => rfl)
    (zr := val_main_v355 (F := Ideal)) (kr := val_main_v357 (F := Ideal)) (zc := val_main_v360 (F := Ideal)) (kc := val_main_v362 (F := Ideal))
    (fun _ => rfl) (fun _ => rfl)

end Cert.Cube.Ref

end

end
-- ==== Proof.KerPoint.lean ====
/- The kernel's block, element by element: what its payloads hold at an element is the plain maths of that element's point. -/
module

public import proofs.«01_k».proof.Proof.Codes
public import proofs.«01_k».proof.Proof.Gen.KernelIdeal.Skeleton
public import Idealize.ShloMosaic.Lib.Pipeline.Value

@[expose] public section

noncomputable section

namespace Cert.Cube.Ker

open Idealize.ShloMosaic
open Cert.KernelIdeal Cert.KernelIdeal.Gen

/-- A block of reals. -/
abbrev Blk := S1024x128.Idx → EReal

variable (x0 x1 x2 : Blk) (k : Cam) (y : S1024x128.Idx)

/-- The altitudes are taken as they are. -/
theorem pay_alt : k0_pay2 (F := Ideal) x2 = x2 := shapeCast_self _ _
/-- Latitudes in radians. -/
theorem pay_lat : k0_pay10 (F := Ideal) x0 y = rad (x0 y) := by
  have : k0_pay10 (F := Ideal) x0 = mulf (F := Ideal) (φ := .f32) (shapeCast S1024x128 x0 shapeCasts_S1024x128_S1024x128) (broadcast S1024x128 (Scalar.ofBits .f32 0x3C8EFA35#32)) := rfl
  rw [this, shapeCast_self]; rfl
/-- Longitudes in radians. -/
theorem pay_lon : k0_pay11 (F := Ideal) x1 y = rad (x1 y) := by
  have : k0_pay11 (F := Ideal) x1 = mulf (F := Ideal) (φ := .f32) (shapeCast S1024x128 x1 shapeCasts_S1024x128_S1024x128) (broadcast S1024x128 (Scalar.ofBits .f32 0x3C8EFA35#32)) := rfl
  rw [this, shapeCast_self]; rfl
/-- Sines of the latitudes. -/
theorem pay_sin : k0_pay12 (F := Ideal) x0 y = Ideal.sin (rad (x0 y)) := by rw [← pay_lat]; rfl
/-- Cosines of the latitudes. -/
theorem pay_cos : k0_pay13 (F := Ideal) x0 y = Ideal.cos (rad (x0 y)) := by rw [← pay_lat]; rfl
/-- The radii of curvature, by a reciprocal square root. -/
theorem pay_radius : k0_pay14 (F := Ideal) x0 y = radiusR (x0 y) := by
  unfold radiusR flat
  rw [← pay_sin]
  rfl

/-- The earth-centred x offsets. -/
def DX : Blk := k0_pay20 (F := Ideal) (k0_pay2 (F := Ideal) x2) k.lat k.lon k.alt (k0_pay11 (F := Ideal) x1) (k0_pay13 (F := Ideal) x0) (k0_pay14 (F := Ideal) x0)
/-- The earth-centred y offsets. -/
def DY : Blk := k0_pay21 (F := Ideal) (k0_pay2 (F := Ideal) x2) k.lat k.lon k.alt (k0_pay11 (F := Ideal) x1) (k0_pay13 (F := Ideal) x0) (k0_pay14 (F := Ideal) x0)
/-- The earth-centred z offsets. -/
def DZ : Blk := k0_pay22 (F := Ideal) (k0_pay2 (F := Ideal) x2) k.lat k.alt (k0_pay12 (F := Ideal) x0) (k0_pay14 (F := Ideal) x0)

/-- The offsets of a point whose latitude is finite, seen from a camera whose latitude is. -/
theorem delta_at (h1 : x0 y ≠ ⊤) (h2 : x0 y ≠ ⊥) (h3 : k.lat ≠ ⊤) (h4 : k.lat ≠ ⊥) :
    DX x0 x1 x2 k y = k.dx (x0 y) (x1 y) (x2 y) ∧ DY x0 x1 x2 k y = k.dy (x0 y) (x1 y) (x2 y)
      ∧ DZ x0 x2 k y = k.dz (x0 y) (x2 y) := by
  unfold DX DY DZ Cam.dx Cam.dy Cam.dz ecefX ecefY ecefZ
  rw [pay_alt, ← radiusR_eq h1 h2, ← radiusR_eq h3 h4, ← pay_lon x1 y, ← pay_sin x0 y, ← pay_cos x0 y, ← pay_radius x0 y]
  exact ⟨rfl, rfl, rfl⟩

/-- The east offsets. -/
def E : Blk := k0_pay27 (F := Ideal) (k0_pay2 (F := Ideal) x2) k.lat k.lon k.alt (k0_pay11 (F := Ideal) x1) (k0_pay13 (F := Ideal) x0) (k0_pay14 (F := Ideal) x0)
/-- The north offsets. -/
def N : Blk := k0_pay29 (F := Ideal) (DX x0 x1 x2 k) (DY x0 x1 x2 k) (DZ x0 x2 k) (k0_pay23 (F := Ideal) k.lat) (k0_pay24 (F := Ideal) k.lat) (k0_pay25 (F := Ideal) k.lon) (k0_pay28 (F := Ideal) k.lat k.lon)
/-- The up offsets. -/
def U : Blk := k0_pay30 (F := Ideal) (DX x0 x1 x2 k) (DY x0 x1 x2 k) (DZ x0 x2 k) (k0_pay23 (F := Ideal) k.lat) (k0_pay24 (F := Ideal) k.lat) (k0_pay25 (F := Ideal) k.lon) (k0_pay26 (F := Ideal) k.lon)

/-- The east, north and up offsets from the earth-centred ones. -/
theorem enu_of :
    E x0 x1 x2 k y = east k.lon (DX x0 x1 x2 k y) (DY x0 x1 x2 k y)
      ∧ N x0 x1 x2 k y = north k.lat k.lon (DX x0 x1 x2 k y) (DY x0 x1 x2 k y) (DZ x0 x2 k y)
      ∧ U x0 x1 x2 k y = up k.lat k.lon (DX x0 x1 x2 k y) (DY x0 x1 x2 k y) (DZ x0 x2 k y) := by
  unfold east north up
  rw [← lit_zero_sub, ← lit_zero_sub]
  exact ⟨rfl, rfl, rfl⟩

/-- The quaternion's normalized parts. -/
theorem quat_of :
    k0_pay33 (F := Ideal) k.qs k.qx k.qy k.qz = k.a ∧ k0_pay34 (F := Ideal) k.qs k.qx k.qy k.qz = k.b
      ∧ k0_pay35 (F := Ideal) k.qs k.qx k.qy k.qz = k.c ∧ k0_pay36 (F := Ideal) k.qs k.qx k.qy k.qz = k.d := by
  unfold Cam.a Cam.b Cam.c Cam.d Cam.norm
  rw [← lit_zero_sub]
  exact ⟨rfl, rfl, rfl, rfl⟩

/-- The x coordinates on the camera's axes. -/
def X : Blk := k0_pay37 (F := Ideal) k.qs k.qx k.qy k.qz (DX x0 x1 x2 k) (DY x0 x1 x2 k) (DZ x0 x2 k) (k0_pay23 (F := Ideal) k.lat) (k0_pay24 (F := Ideal) k.lat) (k0_pay25 (F := Ideal) k.lon) (k0_pay26 (F := Ideal) k.lon) (E x0 x1 x2 k) (k0_pay28 (F := Ideal) k.lat k.lon)
/-- The y coordinates on the camera's axes. -/
def Y : Blk := k0_pay39 (F := Ideal) (E x0 x1 x2 k) (N x0 x1 x2 k) (U x0 x1 x2 k) (k0_pay33 (F := Ideal) k.qs k.qx k.qy k.qz) (k0_pay34 (F := Ideal) k.qs k.qx k.qy k.qz) (k0_pay35 (F := Ideal) k.qs k.qx k.qy k.qz) (k0_pay36 (F := Ideal) k.qs k.qx k.qy k.qz) (k0_pay38 (F := Ideal) k.qs k.qx k.qy k.qz)
/-- The z coordinates on the camera's axes. -/
def Z : Blk := k0_pay40 (F := Ideal) (E x0 x1 x2 k) (N x0 x1 x2 k) (U x0 x1 x2 k) (k0_pay33 (F := Ideal) k.qs k.qx k.qy k.qz) (k0_pay34 (F := Ideal) k.qs k.qx k.qy k.qz) (k0_pay35 (F := Ideal) k.qs k.qx k.qy k.qz) (k0_pay36 (F := Ideal) k.qs k.qx k.qy k.qz)

/-- The coordinates of a point whose latitude is finite, seen from a camera whose latitude is. -/
theorem xyz_at (h1 : x0 y ≠ ⊤) (h2 : x0 y ≠ ⊥) (h3 : k.lat ≠ ⊤) (h4 : k.lat ≠ ⊥) :
    X x0 x1 x2 k y = k.x (x0 y) (x1 y) (x2 y) ∧ Y x0 x1 x2 k y = k.y (x0 y) (x1 y) (x2 y) ∧ Z x0 x1 x2 k y = k.z (x0 y) (x1 y) (x2 y) := by
  obtain ⟨hx, hy, hz⟩ := delta_at x0 x1 x2 k y h1 h2 h3 h4
  obtain ⟨he, hn, hu⟩ := enu_of x0 x1 x2 k y
  obtain ⟨qa, qb, qc, qd⟩ := quat_of k
  unfold Cam.x Cam.y Cam.z Cam.e Cam.n Cam.u
  rw [← hx, ← hy, ← hz, ← he, ← hn, ← hu, ← qa, ← qb, ← qc, ← qd]
  exact ⟨rfl, rfl, rfl⟩

/-- The face a block's element lies on, and its pixel number there, from the coordinates. -/
theorem masks_of (a b c : Blk) :
    k0_pay45 (F := Ideal) c (k0_pay41 (F := Ideal) a) (absf (F := Ideal) (φ := .f32) b) (Scalar.ofBits .f32 0x00000000#32) y = back.on (a y) (b y) (c y)
      ∧ k0_pay46 (F := Ideal) a (absf (F := Ideal) (φ := .f32) b) (absf (F := Ideal) (φ := .f32) c) y = right.on (a y) (b y) (c y)
      ∧ k0_pay47 (F := Ideal) a (absf (F := Ideal) (φ := .f32) b) (absf (F := Ideal) (φ := .f32) c) y = left.on (a y) (b y) (c y) := by
  refine ⟨?_, rfl, ?_⟩
  · show _ = behind (a y) (b y) (c y)
    unfold behind
    rw [← lit_zero_sub (c y)]; rfl
  · show _ = behind (c y) (b y) (a y)
    unfold behind
    rw [← lit_zero_sub (a y)]; rfl

/-- The faces' pixel numbers from the coordinates. -/
theorem lins_of (a b c : Blk) :
    k0_pay52 (F := Ideal) (k0_pay49 (F := Ideal) b c) (k0_pay50 (F := Ideal) a c) (k0_pay51 (F := Ideal)) y = front.lin (a y) (b y) (c y)
      ∧ k0_pay56 (F := Ideal) (k0_pay54 (F := Ideal) a c) (k0_pay55 (F := Ideal) b c) y = back.lin (a y) (b y) (c y)
      ∧ k0_pay57 (F := Ideal) a b c y = right.lin (a y) (b y) (c y)
      ∧ k0_pay60 (F := Ideal) b c (k0_pay58 (F := Ideal) a) (k0_pay59 (F := Ideal) a) y = left.lin (a y) (b y) (c y) := by
  refine ⟨rfl, ?_, ?_, ?_⟩
  · show _ = IntOp.addi (IntOp.muli (pix (a y) (c y)) 2048#32) (pix (-b y) (c y))
    rw [← lit_zero_sub (b y)]; rfl
  · show _ = IntOp.addi (IntOp.muli (pix (-c y) (a y)) 2048#32) (pix (b y) (a y))
    rw [← lit_zero_sub (c y)]; rfl
  · show _ = IntOp.addi (IntOp.muli (pix (c y) (-a y)) 2048#32) (pix (b y) (-a y))
    rw [← lit_zero_sub (a y)]; rfl

/-- The kernel's block of codes: of grid point `g`, with `n` points to draw. -/
def block (g n : BitVec 32) : S1024x128.Idx → BitVec 32 :=
  k0_pay1 (k0_pay46 (F := Ideal) (X x0 x1 x2 k) (absf (F := Ideal) (φ := .f32) (Y x0 x1 x2 k)) (absf (F := Ideal) (φ := .f32) (Z x0 x1 x2 k)))
    (k0_pay47 (F := Ideal) (X x0 x1 x2 k) (absf (F := Ideal) (φ := .f32) (Y x0 x1 x2 k)) (absf (F := Ideal) (φ := .f32) (Z x0 x1 x2 k)))
    (k0_pay52 (F := Ideal) (k0_pay49 (F := Ideal) (Y x0 x1 x2 k) (Z x0 x1 x2 k)) (k0_pay50 (F := Ideal) (X x0 x1 x2 k) (Z x0 x1 x2 k)) (k0_pay51 (F := Ideal)))
    (k0_pay57 (F := Ideal) (X x0 x1 x2 k) (Y x0 x1 x2 k) (Z x0 x1 x2 k))
    (k0_pay60 (F := Ideal) (Y x0 x1 x2 k) (Z x0 x1 x2 k) (k0_pay58 (F := Ideal) (X x0 x1 x2 k)) (k0_pay59 (F := Ideal) (X x0 x1 x2 k)))
    (k0_pay61 (F := Ideal) g n)
    (k0_pay62 (F := Ideal) g (k0_pay44 (F := Ideal) (E x0 x1 x2 k) (N x0 x1 x2 k) (U x0 x1 x2 k) (k0_pay33 (F := Ideal) k.qs k.qx k.qy k.qz) (k0_pay34 (F := Ideal) k.qs k.qx k.qy k.qz) (k0_pay35 (F := Ideal) k.qs k.qx k.qy k.qz) (k0_pay36 (F := Ideal) k.qs k.qx k.qy k.qz) (X x0 x1 x2 k) (k0_pay38 (F := Ideal) k.qs k.qx k.qy k.qz)) n)
    (k0_pay63 (F := Ideal) g (k0_pay45 (F := Ideal) (Z x0 x1 x2 k) (k0_pay41 (F := Ideal) (X x0 x1 x2 k)) (absf (F := Ideal) (φ := .f32) (Y x0 x1 x2 k)) (Scalar.ofBits .f32 0x00000000#32)) n)
    (k0_pay64 (k0_pay56 (F := Ideal) (k0_pay54 (F := Ideal) (X x0 x1 x2 k) (Z x0 x1 x2 k)) (k0_pay55 (F := Ideal) (Y x0 x1 x2 k) (Z x0 x1 x2 k))))

/-- Each element of the block is its point's code. -/
theorem block_at (g n : BitVec 32) :
    block x0 x1 x2 k g n y = code (k0_pay61 (F := Ideal) g n y) (X x0 x1 x2 k y) (Y x0 x1 x2 k y) (Z x0 x1 x2 k y) := by
  obtain ⟨m1, m2, m3⟩ := masks_of y (X x0 x1 x2 k) (Y x0 x1 x2 k) (Z x0 x1 x2 k)
  obtain ⟨l1, l2, l3, l4⟩ := lins_of y (X x0 x1 x2 k) (Y x0 x1 x2 k) (Z x0 x1 x2 k)
  unfold code
  rw [← m1, ← m2, ← m3, ← l1, ← l2, ← l3, ← l4]
  rfl

/-- Whether an element is one of the million points to draw. -/
theorem valid_at (t : ℕ) (ht : t < 8) : k0_pay61 (F := Ideal) (BitVec.ofNat 32 t) 1000000#32 y =
    if (t * 1024 + (y 0).val) * 128 + (y 1).val < 1000000 then 1#1 else 0#1 := by
  have h0 : (y 0).val < 1024 := (y 0).isLt
  have h1 : (y 1).val < 128 := (y 1).isLt
  have e : k0_pay61 (F := Ideal) (BitVec.ofNat 32 t) 1000000#32 y =
      IntOp.cmpi .slt ((BitVec.ofNat 32 t * 1024#32 + BitVec.ofNat 32 (0 * 1024 + (y 0).val)) * 128#32
        + BitVec.ofNat 32 (0 * 128 + (y 1).val)) 1000000#32 := rfl
  have hw : (BitVec.ofNat 32 t * 1024#32 + BitVec.ofNat 32 (0 * 1024 + (y 0).val)) * 128#32 + BitVec.ofNat 32 (0 * 128 + (y 1).val)
      = BitVec.ofNat 32 ((t * 1024 + (y 0).val) * 128 + (y 1).val) := by
    apply BitVec.eq_of_toNat_eq
    simp only [BitVec.toNat_add, BitVec.toNat_mul, BitVec.toNat_ofNat]
    omega
  rw [e, hw]
  generalize hv : (t * 1024 + (y 0).val) * 128 + (y 1).val = v
  have hv' : v < 1048576 := by omega
  have hi : (BitVec.ofNat 32 v).toInt = v := by
    rw [BitVec.toInt_eq_toNat_of_lt] <;> rw [BitVec.toNat_ofNat] <;> omega
  have hs : BitVec.slt (BitVec.ofNat 32 v) 1000000#32 = decide (v < 1000000) := by
    rw [BitVec.slt, hi]
    exact decide_eq_decide.2 (by rw [show (1000000#32 : BitVec 32).toInt = 1000000 from rfl]; omega)
  show BitVec.ofBool (BitVec.slt (BitVec.ofNat 32 v) 1000000#32) = _
  rw [hs]
  by_cases h : v < 1000000 <;> simp [h]

/-- A word is point `f`'s code: the code of its coordinates when it is one of the million (and the latitudes are finite),
    a code of no face past them. -/
def Coded (k : Cam) (a0 a1 a2 : EReal) (f : ℕ) (w : BitVec 32) : Prop :=
  (f < 1000000 → a0 ≠ ⊤ → a0 ≠ ⊥ → k.lat ≠ ⊤ → k.lat ≠ ⊥ → w = code 1#1 (k.x a0 a1 a2) (k.y a0 a1 a2) (k.z a0 a1 a2))
    ∧ (1000000 ≤ f → ∃ x y z, w = code 0#1 x y z)

/-- Every element of the block of grid point `t` is its point's code. -/
theorem block_coded (t : ℕ) (ht : t < 8) :
    Coded k (x0 y) (x1 y) (x2 y) ((t * 1024 + (y 0).val) * 128 + (y 1).val) (block x0 x1 x2 k (BitVec.ofNat 32 t) 1000000#32 y) := by
  rw [block_at, valid_at y t ht]
  refine ⟨fun hf h1 h2 h3 h4 => ?_, fun hf => ?_⟩
  · obtain ⟨hx, hy, hz⟩ := xyz_at x0 x1 x2 k y h1 h2 h3 h4
    rw [if_pos hf, hx, hy, hz]
  · rw [if_neg (by omega)]
    exact ⟨_, _, _, rfl⟩

end Cert.Cube.Ker

end

end
-- ==== Proof.KerOut.lean ====
/- What the kernel's run leaves in its result: every point's code. -/
module

public import proofs.«01_k».proof.Proof.KerPoint
public import proofs.«01_k».proof.Proof.Image
public import proofs.«01_k».proof.Proof.Gen.KernelIdeal.Frame

@[expose] public section

set_option maxRecDepth 16384

noncomputable section

namespace Cert.Cube.Ker

open Idealize.ShloMosaic Idealize.ShloMosaic.ValueIdx Idealize.ShloMosaic.Routing Idealize.ShloMosaic.TcCoe Idealize.ShloMosaic.Tactic
open Idealize.ShloMosaic.Pipeline (Dat Cfg Window BodyObligation cellOf)
open Cert.KernelIdeal Cert.KernelIdeal.Gen

variable (m : (ℓ : Loc nD τ sig) → Buf (Elt Ideal) ℓ)

/-- The camera a row of eight numbers spells. -/
def camRow (x : S1x8.Idx → EReal) : Cam :=
  ⟨x (ix2 0 0), x (ix2 0 1), x (ix2 0 2), x (ix2 0 3), x (ix2 0 4), x (ix2 0 5), x (ix2 0 6)⟩

/-- The first of the one-entry loads of the camera's row, and the others. -/
theorem cam_ld (x : S1x8.Idx → EReal) (j : ℕ) (h : ∀ a, ![0, j] a + ![1, 1] a ≤ S1x8.size a) (hj : j < 8)
    (hp : ∀ a, ![0, 0] a < S1x1.size a) :
    extractAt (s := S1x1) ![0, 0] (View.ld (Val := Elt Ideal) (e' := .f32) x (Rect.unit (s := S1x8) ![0, j] ![1, 1] h)) hp = x (ix2 0 ⟨j, hj⟩) := by
  show x _ = x _
  congr 1
  funext a
  match a with
  | ⟨0, _⟩ => rfl
  | ⟨1, _⟩ => exact Fin.ext (by show j + 0 * 1 = j; omega)

/-- What the body leaves at a grid point: the block of codes of what it was given. -/
theorem outs_eq (c : Dev nD) (t : Fin cfg0.N) :
    outsAt0 m c t = block (iblk m c 0 t) (iblk m c 1 t) (iblk m c 2 t) (camRow (iblk m c 3 t))
      (BitVec.ofNat 32 (grid0.coords t 0).val) (iblk m c 4 t (ix1 0)) := by
  have hz : (![0, 0] : Fin S1024x128.rank → ℕ) = fun _ => 0 := by funext a; match a with | ⟨0, _⟩ => rfl | ⟨1, _⟩ => rfl
  unfold outsAt0 out0_A_5
  rw [View.read_writes_eq_canon _ _ _ (cover0_A_5 c _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  rw [View.canon_unit_zero (S := S1024x128) (off := ![0, 0]) hz]
  have hld : ∀ x : S1024x128.Idx → EReal, View.ld (Val := Elt Ideal) (e' := .f32) x (Rect.unit (s := S1024x128) ![0, 0] S1024x128.size inb_S1024x128_S1024x128_0_0) = x := fun x =>
    View.ld_unit_zero (Val := Elt Ideal) (e := .f32) (S := S1024x128) (off := ![0, 0]) hz inb_S1024x128_S1024x128_0_0 x
  rw [hld (iblk m c 0 t), hld (iblk m c 1 t), hld (iblk m c 2 t)]
  have e0 : ∀ x3 : S1x8.Idx → EReal, k0_pay3 (F := Ideal) (View.ld (Val := Elt Ideal) (e' := .f32) x3 (Rect.unit (s := S1x8) ![0, 0] S1x1.size inb_S1x8_S1x1_0_0)) = (camRow x3).lat := fun x3 => cam_ld x3 0 _ (by omega) _
  have e1 : ∀ x3 : S1x8.Idx → EReal, k0_pay4 (F := Ideal) (View.ld (Val := Elt Ideal) (e' := .f32) x3 (Rect.unit (s := S1x8) ![0, 1] S1x1.size inb_S1x8_S1x1_0_1)) = (camRow x3).lon := fun x3 => cam_ld x3 1 _ (by omega) _
  have e2 : ∀ x3 : S1x8.Idx → EReal, k0_pay5 (F := Ideal) (View.ld (Val := Elt Ideal) (e' := .f32) x3 (Rect.unit (s := S1x8) ![0, 2] S1x1.size inb_S1x8_S1x1_0_2)) = (camRow x3).alt := fun x3 => cam_ld x3 2 _ (by omega) _
  have e3 : ∀ x3 : S1x8.Idx → EReal, k0_pay6 (F := Ideal) (View.ld (Val := Elt Ideal) (e' := .f32) x3 (Rect.unit (s := S1x8) ![0, 3] S1x1.size inb_S1x8_S1x1_0_3)) = (camRow x3).qs := fun x3 => cam_ld x3 3 _ (by omega) _
  have e4 : ∀ x3 : S1x8.Idx → EReal, k0_pay7 (F := Ideal) (View.ld (Val := Elt Ideal) (e' := .f32) x3 (Rect.unit (s := S1x8) ![0, 4] S1x1.size inb_S1x8_S1x1_0_4)) = (camRow x3).qx := fun x3 => cam_ld x3 4 _ (by omega) _
  have e5 : ∀ x3 : S1x8.Idx → EReal, k0_pay8 (F := Ideal) (View.ld (Val := Elt Ideal) (e' := .f32) x3 (Rect.unit (s := S1x8) ![0, 5] S1x1.size inb_S1x8_S1x1_0_5)) = (camRow x3).qy := fun x3 => cam_ld x3 5 _ (by omega) _
  have e6 : ∀ x3 : S1x8.Idx → EReal, k0_pay9 (F := Ideal) (View.ld (Val := Elt Ideal) (e' := .f32) x3 (Rect.unit (s := S1x8) ![0, 6] S1x1.size inb_S1x8_S1x1_0_6)) = (camRow x3).qz := fun x3 => cam_ld x3 6 _ (by omega) _
  rw [e0 (iblk m c 3 t), e1 (iblk m c 3 t), e2 (iblk m c 3 t), e3 (iblk m c 3 t), e4 (iblk m c 3 t), e5 (iblk m c 3 t), e6 (iblk m c 3 t)]
  rfl

/-- Where the windows' blocks lie at grid point `t`. -/
theorem idx_facts : ∀ t : Fin cfg0.N, (grid0.coords t 0).val = t.val ∧ win0_5.index t (0 : Fin 2) = t.val ∧ win0_5.index t (1 : Fin 2) = 0
    ∧ win0_3.index t (0 : Fin 2) = 0 ∧ win0_3.index t (1 : Fin 2) = 0 ∧ win0_4.index t (0 : Fin 1) = 0
    ∧ win0_5.xsize (grid0.coords t) 0 = 1024 ∧ win0_5.xsize (grid0.coords t) 1 = 128 := by decide +kernel

/-- Where the points' blocks lie at grid point `t`. -/
theorem idx_points : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 := by decide +kernel

/-- The place in the whole array of an element of grid point `t`'s block. -/
def place (t : Fin cfg0.N) (y : S1024x128.Idx) : S8192x128.Idx :=
  ix2 ⟨t.val * 1024 + (y 0).val, by have h : t.val < 8 := t.isLt; have h' : (y 0).val < 1024 := (y 0).isLt; omega⟩ (y 1)

/-- The camera's row, as every grid point is given it. -/
theorem read_cam (c : Dev nD) (v : (b : Ref sig .tc) → Buf (Elt Ideal) ((c : Thread nD τ).loc b)) (t : Fin cfg0.N) (y : S1x8.Idx) :
    ((cfg0.win 3).blk t).view.read (Elt Ideal) (v (Pipeline.arrRef spec0 3)) y = v main_v27 y := by
  obtain ⟨_, _, _, e0, e1, _⟩ := idx_facts t
  have h : (win0_3.rect t).emb y = y := by
    funext a; apply Fin.ext
    match a with
    | ⟨0, _⟩ => show win0_3.index t (0 : Fin 2) * 1 + 1 * (y 0).val = (y 0).val; omega
    | ⟨1, _⟩ => show win0_3.index t (1 : Fin 2) * 8 + 1 * (y 1).val = (y 1).val; omega
  show v main_v27 ((win0_3.rect t).emb y) = _
  rw [h]

/-- The camera's row a grid point is given is the whole array. -/
theorem iblk_cam (c : Dev nD) (t : Fin cfg0.N) (y : S1x8.Idx) : iblk m c 3 t y = V m c main_v27 y :=
  read_cam c (V m c) t y

/-- The number of points, as every grid point is given it. -/
theorem read_num (c : Dev nD) (v : (b : Ref sig .tc) → Buf (Elt Ideal) ((c : Thread nD τ).loc b)) (t : Fin cfg0.N) (y : S1.Idx) :
    ((cfg0.win 4).blk t).view.read (Elt Ideal) (v (Pipeline.arrRef spec0 4)) y = v main_v28 y := by
  obtain ⟨_, _, _, _, _, e0, _⟩ := idx_facts t
  have h : (win0_4.rect t).emb y = y := by
    funext a; apply Fin.ext
    match a with
    | ⟨0, _⟩ => show win0_4.index t (0 : Fin 1) * 1 + 1 * (y 0).val = (y 0).val; omega
  show v main_v28 ((win0_4.rect t).emb y) = _
  rw [h]

/-- The number of points a grid point is given is the whole array. -/
theorem iblk_num (c : Dev nD) (t : Fin cfg0.N) (y : S1.Idx) : iblk m c 4 t y = V m c main_v28 y :=
  read_num c (V m c) t y

/-- The result's block lies at its elements' places. -/
theorem emb_out (t : Fin cfg0.N) (y : S1024x128.Idx) : (win0_5.rect t).emb y = place t y := by
  obtain ⟨_, e0, e1, _⟩ := idx_facts t
  funext a; apply Fin.ext
  match a with
  | ⟨0, _⟩ => show win0_5.index t (0 : Fin 2) * 1024 + 1 * (y 0).val = t.val * 1024 + (y 0).val; omega
  | ⟨1, _⟩ => show win0_5.index t (1 : Fin 2) * 128 + 1 * (y 1).val = (y 1).val; omega

/-- The latitudes a grid point is given. -/
theorem read_lat (c : Dev nD) (v : (b : Ref sig .tc) → Buf (Elt Ideal) ((c : Thread nD τ).loc b)) (t : Fin cfg0.N) (y : S1024x128.Idx) :
    ((cfg0.win 0).blk t).view.read (Elt Ideal) (v (Pipeline.arrRef spec0 0)) y = v main_v5 (place t y) := by
  obtain ⟨e0, e1, _⟩ := idx_points t
  have h : (win0_0.rect t).emb y = place t y := by
    funext a; apply Fin.ext
    match a with
    | ⟨0, _⟩ => show win0_0.index t (0 : Fin 2) * 1024 + 1 * (y 0).val = t.val * 1024 + (y 0).val; omega
    | ⟨1, _⟩ => show win0_0.index t (1 : Fin 2) * 128 + 1 * (y 1).val = (y 1).val; omega
  show v main_v5 ((win0_0.rect t).emb y) = _
  rw [h]

/-- A grid point's latitudes are the array's at their places. -/
theorem iblk_lat (c : Dev nD) (t : Fin cfg0.N) (y : S1024x128.Idx) : iblk m c 0 t y = V m c main_v5 (place t y) :=
  read_lat c (V m c) t y

/-- The longitudes a grid point is given. -/
theorem read_lon (c : Dev nD) (v : (b : Ref sig .tc) → Buf (Elt Ideal) ((c : Thread nD τ).loc b)) (t : Fin cfg0.N) (y : S1024x128.Idx) :
    ((cfg0.win 1).blk t).view.read (Elt Ideal) (v (Pipeline.arrRef spec0 1)) y = v main_v11 (place t y) := by
  obtain ⟨_, _, e0, e1, _⟩ := idx_points t
  have h : (win0_1.rect t).emb y = place t y := by
    funext a; apply Fin.ext
    match a with
    | ⟨0, _⟩ => show win0_1.index t (0 : Fin 2) * 1024 + 1 * (y 0).val = t.val * 1024 + (y 0).val; omega
    | ⟨1, _⟩ => show win0_1.index t (1 : Fin 2) * 128 + 1 * (y 1).val = (y 1).val; omega
  show v main_v11 ((win0_1.rect t).emb y) = _
  rw [h]

/-- A grid point's longitudes are the array's at their places. -/
theorem iblk_lon (c : Dev nD) (t : Fin cfg0.N) (y : S1024x128.Idx) : iblk m c 1 t y = V m c main_v11 (place t y) :=
  read_lon c (V m c) t y

/-- The altitudes a grid point is given. -/
theorem read_alt (c : Dev nD) (v : (b : Ref sig .tc) → Buf (Elt Ideal) ((c : Thread nD τ).loc b)) (t : Fin cfg0.N) (y : S1024x128.Idx) :
    ((cfg0.win 2).blk t).view.read (Elt Ideal) (v (Pipeline.arrRef spec0 2)) y = v main_v17 (place t y) := by
  obtain ⟨_, _, _, _, e0, e1⟩ := idx_points t
  have h : (win0_2.rect t).emb y = place t y := by
    funext a; apply Fin.ext
    match a with
    | ⟨0, _⟩ => show win0_2.index t (0 : Fin 2) * 1024 + 1 * (y 0).val = t.val * 1024 + (y 0).val; omega
    | ⟨1, _⟩ => show win0_2.index t (1 : Fin 2) * 128 + 1 * (y 1).val = (y 1).val; omega
  show v main_v17 ((win0_2.rect t).emb y) = _
  rw [h]

/-- A grid point's altitudes are the array's at their places. -/
theorem iblk_alt (c : Dev nD) (t : Fin cfg0.N) (y : S1024x128.Idx) : iblk m c 2 t y = V m c main_v17 (place t y) :=
  read_alt c (V m c) t y

/-- Which elements of the result a grid point's block holds. -/
theorem mem_blk (t : Fin cfg0.N) (i : S8192x128.Idx) (h : t.val * 1024 ≤ (i 0).val ∧ (i 0).val < t.val * 1024 + 1024) :
    i ∈ ((cfg0.win 5).blk t).view.set := by
  have h1 : (i 1).val < 128 := (i 1).isLt
  obtain ⟨_, e0, e1, _, _, _, x0, x1⟩ := idx_facts t
  show i ∈ ((View.whole main_v29).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + win0_5.xsize (grid0.coords t) 0
    rw [e0, x0]; exact h
  | ⟨1, _⟩ =>
    show win0_5.index t (1 : Fin 2) * 128 ≤ (i 1).val ∧ (i 1).val < win0_5.index t (1 : Fin 2) * 128 + win0_5.xsize (grid0.coords t) 1
    rw [e1, x1]; omega

/-- The blocks of the result fill it. -/
theorem cover (i : S8192x128.Idx) : ∃ t : Fin cfg0.N, (cfg0.win 5).flush t = true ∧ i ∈ ((cfg0.win 5).blk t).view.set := by
  have h0 : (i 0).val < 8192 := (i 0).isLt
  exact ⟨⟨(i 0).val / 1024, show (i 0).val / 1024 < 8 by omega⟩, flush0_5 _, mem_blk _ i ⟨by dsimp only; omega, by dsimp only; omega⟩⟩

/-- What a grid point writes back is what its body leaves. -/
theorem flushed_out (c : Dev nD) (t : Fin cfg0.N) (y : S1024x128.Idx) : (dats m 0 c).flushed 5 t y = outsAt0 m c t y := by
  show (cfg0.win 5).cut (grid0.coords t) ((dats m 0 c).after 5 t) y = _
  rw [after0_5]
  generalize outsAt0 m c t = v
  rfl

/-- What a grid point writes back are its points' codes. -/
theorem flushed_coded (c : Dev nD) (hn : V m c main_v28 (ix1 0) = 1000000#32) (t : Fin cfg0.N) (y : S1024x128.Idx) :
    Coded (camRow (V m c main_v27)) (V m c main_v5 (place t y)) (V m c main_v11 (place t y)) (V m c main_v17 (place t y))
      ((place t y 0).val * 128 + (place t y 1).val) ((dats m 0 c).flushed 5 t y) := by
  have hcam : camRow (iblk m c 3 t) = camRow (V m c main_v27) := by
    unfold camRow
    simp only [iblk_cam]
  rw [flushed_out, outs_eq, hcam, iblk_num, hn, (idx_facts t).1, ← iblk_lat, ← iblk_lon, ← iblk_alt]
  exact block_coded _ _ _ _ y t.val t.isLt

/-- Words that are codes block by block are codes all over the array. -/
theorem coded_of_blocks (c : Dev nD) (k : Cam) (a0 a1 a2 : S8192x128.Idx → EReal)
    (h : ∀ (t : Fin cfg0.N) (y : S1024x128.Idx), Coded k (a0 (place t y)) (a1 (place t y)) (a2 (place t y))
      ((place t y 0).val * 128 + (place t y 1).val) ((dats m 0 c).flushed 5 t y)) (i : S8192x128.Idx) :
    Coded k (a0 i) (a1 i) (a2 i) ((i 0).val * 128 + (i 1).val) ((dats m 0 c).arrAt 5 cfg0.N i) := by
  refine (dats m 0 c).arrAt_forall_of_cover 5 (fun i w => Coded k (a0 i) (a1 i) (a2 i) ((i 0).val * 128 + (i 1).val) w)
    (fun t _ y => ?_) cover i
  have h' := h t y
  rw [← emb_out] at h'
  exact h'

/-- Every element of the kernel's result is its point's code. -/
theorem arr_coded (c : Dev nD) (hn : V m c main_v28 (ix1 0) = 1000000#32) (i : S8192x128.Idx) :
    Coded (camRow (V m c main_v27)) (V m c main_v5 i) (V m c main_v11 i) (V m c main_v17 i) ((i 0).val * 128 + (i 1).val)
      ((dats m 0 c).arrAt 5 cfg0.N i) :=
  coded_of_blocks m c _ _ _ _ (flushed_coded m c hn) i

end Cert.Cube.Ker

end

end
-- ==== Proof.KerPre.lean ====
/- What the kernel's windows are given: the points' columns, padded, and the camera. -/
module

public import proofs.«01_k».proof.Proof.RefPoint
public import proofs.«01_k».proof.Proof.KerOut

@[expose] public section

set_option maxRecDepth 16384

noncomputable section

namespace Cert.Cube.Ker

open Idealize.ShloMosaic Idealize.ShloMosaic.ValueIdx Idealize.ShloMosaic.Routing Idealize.ShloMosaic.TcCoe Idealize.ShloMosaic.Tactic
open Cert.KernelIdeal Cert.KernelIdeal.Gen

variable (m : (ℓ : Loc nD τ sig) → Buf (Elt Ideal) ℓ)

/-- A column of the points padded with zeros. -/
def padded (x : S1000000x4.Idx → EReal) (o : Fin 2 → ℕ) (h : S1000000x4.Slices o S1000000x1) : S1048576.Idx → EReal :=
  Host.scatter scatter_S1048576_S1_S1000000_0_n_0_0 (fun _ b => b)
    (broadcastInDim S1048576 ![] bcast_S_S1048576 (constant (F := Ideal) S_ .f32 0x00000000#32))
    (broadcastInDim S1 ![] bcast_S_S1 (constantI S_ 32 0#32))
    (shapeCast S1000000 (extractStridedSlice S1000000x1 o x h) shapeCasts_S1000000x1_S1000000)

/-- A padded column holds the column's entries first. -/
theorem padded_at (x : S1000000x4.Idx → EReal) (o : ℕ) (ho : o < 4) (h : S1000000x4.Slices ![0, o] S1000000x1) (k : Fin 1000000) (r : Fin 1048576)
    (hr : r.val = k.val) : padded x ![0, o] h (ix1 r) = x (ix2 k ⟨o, ho⟩) := by
  unfold padded
  refine (scatter_front scatter_S1048576_S1_S1000000_0_n_0_0 rfl rfl rfl rfl _ _ (fun _ => rfl) _ k r hr).trans ?_
  exact Ref.column_at x o ho h _ k

/-- The latitudes' array. -/
theorem V_lat (c : Dev nD) : V m c main_v5 = shapeCast S8192x128 (padded (m ((c : Thread nD τ).loc main_arg0)) ![0, 0] slices_S1000000x4_S1000000x1_0_0) shapeCasts_S1048576_S8192x128 := by
  show StableHlo.after hostOps0 _ _ = _
  after_results
  rfl

/-- The latitudes' array at a point's place. -/
theorem V_lat_at (c : Dev nD) (k : Fin 1000000) (p : Fin 8192) (q : Fin 128) (h : k.val = p.val * 128 + q.val) :
    V m c main_v5 (ix2 p q) = m ((c : Thread nD τ).loc main_arg0) (ix2 k 0) := by
  rw [V_lat]
  have hk := k.isLt
  rw [cast12 _ shapeCasts_S1048576_S8192x128 p q ⟨k.val, by omega⟩ h]
  exact padded_at _ 0 (by omega) _ k _ rfl

/-- The longitudes' array. -/
theorem V_lon (c : Dev nD) : V m c main_v11 = shapeCast S8192x128 (padded (m ((c : Thread nD τ).loc main_arg0)) ![0, 1] slices_S1000000x4_S1000000x1_0_1) shapeCasts_S1048576_S8192x128 := by
  show StableHlo.after hostOps0 _ _ = _
  after_results
  rfl

/-- The longitudes' array at a point's place. -/
theorem V_lon_at (c : Dev nD) (k : Fin 1000000) (p : Fin 8192) (q : Fin 128) (h : k.val = p.val * 128 + q.val) :
    V m c main_v11 (ix2 p q) = m ((c : Thread nD τ).loc main_arg0) (ix2 k 1) := by
  rw [V_lon]
  have hk := k.isLt
  rw [cast12 _ shapeCasts_S1048576_S8192x128 p q ⟨k.val, by omega⟩ h]
  exact padded_at _ 1 (by omega) _ k _ rfl

/-- The altitudes' array. -/
theorem V_alt (c : Dev nD) : V m c main_v17 = shapeCast S8192x128 (padded (m ((c : Thread nD τ).loc main_arg0)) ![0, 2] slices_S1000000x4_S1000000x1_0_2) shapeCasts_S1048576_S8192x128 := by
  show StableHlo.after hostOps0 _ _ = _
  after_results
  rfl

/-- The altitudes' array at a point's place. -/
theorem V_alt_at (c : Dev nD) (k : Fin 1000000) (p : Fin 8192) (q : Fin 128) (h : k.val = p.val * 128 + q.val) :
    V m c main_v17 (ix2 p q) = m ((c : Thread nD τ).loc main_arg0) (ix2 k 2) := by
  rw [V_alt]
  have hk := k.isLt
  rw [cast12 _ shapeCasts_S1048576_S8192x128 p q ⟨k.val, by omega⟩ h]
  exact padded_at _ 2 (by omega) _ k _ rfl

/-- The values' array. -/
theorem V_val (c : Dev nD) : V m c main_v22 = padded (m ((c : Thread nD τ).loc main_arg0)) ![0, 3] slices_S1000000x4_S1000000x1_0_3 := by
  show StableHlo.after hostOps0 _ _ = _
  after_results
  rfl

/-- The values' array at a point's place. -/
theorem V_val_at (c : Dev nD) (k : Fin 1000000) (r : Fin 1048576) (hr : r.val = k.val) :
    V m c main_v22 (ix1 r) = m ((c : Thread nD τ).loc main_arg0) (ix2 k 3) := by
  rw [V_val]
  exact padded_at _ 3 (by omega) _ k _ hr

/-- The camera's row. -/
theorem V_cam (c : Dev nD) : V m c main_v27 = Host.scatter scatter_S1x8_S2_S7_0_0_01_0 (fun _ b => b)
    (broadcastInDim S1x8 ![] bcast_S_S1x8 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (m ((c : Thread nD τ).loc main_arg1)) := by
  show StableHlo.after hostOps0 _ _ = _
  after_results

/-- A table of two zeros. -/
theorem zeros_at (i : S2.Idx) :
    concatenate S2 0 [⟨S1, broadcastInDim S1 ![] bcast_S_S1 (constantI S_ 32 0#32)⟩, ⟨S1, broadcastInDim S1 ![] bcast_S_S1 (constantI S_ 32 0#32)⟩] concatenates_S1_S1_S2_d0 i = 0#32 := by
  obtain ⟨j, rfl⟩ := (⟨i 0, eq_ix1 i⟩ : ∃ j, i = ix1 j)
  match j with
  | ⟨0, _⟩ => exact concatenate_pair_apply_left 0 _ _ concatenates_S1_S1_S2_d0 _ rfl (ix1 0) fun a => match a with | ⟨0, _⟩ => rfl
  | ⟨1, _⟩ => exact concatenate_pair_apply_right 0 _ _ concatenates_S1_S1_S2_d0 _ rfl rfl (ix1 0) (fun a ha => match a with | ⟨0, _⟩ => absurd rfl ha) rfl

/-- The camera's row holds the camera's numbers first. -/
theorem V_cam_at (c : Dev nD) (j : Fin 7) (j' : Fin 8) (h : j'.val = j.val) :
    V m c main_v27 (ix2 0 j') = m ((c : Thread nD τ).loc main_arg1) (ix1 j) := by
  rw [V_cam]
  exact scatter_row scatter_S1x8_S2_S7_0_0_01_0 rfl rfl rfl rfl _ _ zeros_at _ j j' h

/-- The camera the kernel reads is the argument's. -/
theorem cam_eq (c : Dev nD) : camRow (V m c main_v27) = camOf (m ((c : Thread nD τ).loc main_arg1)) := by
  unfold camRow camOf
  rw [V_cam_at m c 0 0 rfl, V_cam_at m c 1 1 rfl, V_cam_at m c 2 2 rfl, V_cam_at m c 3 3 rfl, V_cam_at m c 4 4 rfl,
    V_cam_at m c 5 5 rfl, V_cam_at m c 6 6 rfl]

/-- The number of points. -/
theorem V_num (c : Dev nD) (i : S1.Idx) : V m c main_v28 i = 1000000#32 := by
  have : V m c main_v28 = broadcastInDim S1 ![] bcast_S_S1 (constantI S_ 32 1000000#32) := by
    show StableHlo.after hostOps0 _ _ = _
    after_results
  rw [this]
  rfl

end Cert.Cube.Ker

end

end
-- ==== Proof.KerTail.lean ====
/- The lines after the kernel: from the array of codes to the faces' images. -/
module

public import proofs.«01_k».proof.Proof.KerPre

@[expose] public section

set_option maxRecDepth 16384

noncomputable section

namespace Cert.Cube.Ker

open Idealize.ShloMosaic Idealize.ShloMosaic.ValueIdx Idealize.ShloMosaic.Routing Idealize.ShloMosaic.TcCoe Idealize.ShloMosaic.Tactic
open Cert.KernelIdeal Cert.KernelIdeal.Gen

/-- A word at every point's place. -/
abbrev all (w : BitVec 32) : IVec S1048576 32 := broadcastInDim S1048576 ![] bcast_S_S1048576 (constantI S_ 32 w)
/-- A word passed through a scalar copy at every point's place. -/
abbrev all' (w : BitVec 32) : IVec S1048576 32 := broadcastInDim S1048576 ![] bcast_S_S1048576 (id (constantI S_ 32 w))

/-- The rows a face reads off the codes. -/
def rowsOf (w : IVec S1048576 32) (lo hi : BitVec 32) : IVec S1048576 32 :=
  select (andi (cmpi .sge w (all lo)) (cmpi .slt w (all hi))) (Host.shrsi (subi w (all lo)) (all 11#32)) (all' 2048#32)
/-- The columns a face reads off the codes. -/
def colsOf (w : IVec S1048576 32) (lo hi : BitVec 32) : IVec S1048576 32 :=
  select (andi (cmpi .sge w (all lo)) (cmpi .slt w (all hi))) (andi (subi w (all lo)) (all 2047#32)) (all' 2048#32)
/-- Values filed under rows and columns, the spare row and column cropped. -/
def filed (r c : IVec S1048576 32) (v : S1048576.Idx → EReal) : S2048x2048.Idx → EReal :=
  extractStridedSlice S2048x2048 ![0, 0]
    (Host.scatter scatter_S2049x2049_S1048576x2_S1048576_n_01_01_1 (fun _ b => b)
      (broadcastInDim S2049x2049 ![] bcast_S_S2049x2049 (constant (F := Ideal) S_ .f32 0x00000000#32))
      (concatenate S1048576x2 1
        [⟨S1048576x1, broadcastInDim S1048576x1 ![0] bcast_S1048576_S1048576x1_0 (select (cmpi .slt r (all 0#32)) (addi r (all 2049#32)) r)⟩,
          ⟨S1048576x1, broadcastInDim S1048576x1 ![0] bcast_S1048576_S1048576x1_0 (select (cmpi .slt c (all 0#32)) (addi c (all 2049#32)) c)⟩]
        concatenates_S1048576x1_S1048576x1_S1048576x2_d1) v) slices_S2049x2049_S2048x2048_0_0

variable (W : Valuation τ sig (Elt Ideal))

/-- The first group of lines lays the codes out flat. -/
theorem flat : StableHlo.after hostOps1 W (Proc.devRef .tc main_v30) = shapeCast S1048576 (W (Proc.devRef .tc main_v29)) shapeCasts_S8192x128_S1048576 := by
  after_results
  rfl

/-- The first group of lines keeps the values. -/
theorem kept_val : StableHlo.after hostOps1 W (Proc.devRef .tc main_v22) = W (Proc.devRef .tc main_v22) :=
  StableHlo.after_of_writes_sub (r := main_v22) hostOps1 _ hostOps1_writes (by decide +kernel)

/-- The front face's lines keep the flat codes and the values. -/
theorem kept_front : StableHlo.after hostOps1_3 (StableHlo.after hostOps1_2 (StableHlo.after hostOps1_1 W)) (Proc.devRef .tc main_v30) = W (Proc.devRef .tc main_v30)
    ∧ StableHlo.after hostOps1_3 (StableHlo.after hostOps1_2 (StableHlo.after hostOps1_1 W)) (Proc.devRef .tc main_v22) = W (Proc.devRef .tc main_v22) := by
  constructor
  · rw [StableHlo.after_of_writes_sub (r := main_v30) hostOps1_3 _ hostOps1_3_writes (by decide +kernel),
      StableHlo.after_of_writes_sub (r := main_v30) hostOps1_2 _ hostOps1_2_writes (by decide +kernel),
      StableHlo.after_of_writes_sub (r := main_v30) hostOps1_1 _ hostOps1_1_writes (by decide +kernel)]
  · rw [StableHlo.after_of_writes_sub (r := main_v22) hostOps1_3 _ hostOps1_3_writes (by decide +kernel),
      StableHlo.after_of_writes_sub (r := main_v22) hostOps1_2 _ hostOps1_2_writes (by decide +kernel),
      StableHlo.after_of_writes_sub (r := main_v22) hostOps1_1 _ hostOps1_1_writes (by decide +kernel)]

/-- The back face's lines keep the flat codes and the values. -/
theorem kept_back : StableHlo.after hostOps1_7 (StableHlo.after hostOps1_6 (StableHlo.after hostOps1_5 (StableHlo.after hostOps1_4 W))) (Proc.devRef .tc main_v30) = W (Proc.devRef .tc main_v30)
    ∧ StableHlo.after hostOps1_7 (StableHlo.after hostOps1_6 (StableHlo.after hostOps1_5 (StableHlo.after hostOps1_4 W))) (Proc.devRef .tc main_v22) = W (Proc.devRef .tc main_v22) := by
  constructor
  · rw [StableHlo.after_of_writes_sub (r := main_v30) hostOps1_7 _ hostOps1_7_writes (by decide +kernel),
      StableHlo.after_of_writes_sub (r := main_v30) hostOps1_6 _ hostOps1_6_writes (by decide +kernel),
      StableHlo.after_of_writes_sub (r := main_v30) hostOps1_5 _ hostOps1_5_writes (by decide +kernel),
      StableHlo.after_of_writes_sub (r := main_v30) hostOps1_4 _ hostOps1_4_writes (by decide +kernel)]
  · rw [StableHlo.after_of_writes_sub (r := main_v22) hostOps1_7 _ hostOps1_7_writes (by decide +kernel),
      StableHlo.after_of_writes_sub (r := main_v22) hostOps1_6 _ hostOps1_6_writes (by decide +kernel),
      StableHlo.after_of_writes_sub (r := main_v22) hostOps1_5 _ hostOps1_5_writes (by decide +kernel),
      StableHlo.after_of_writes_sub (r := main_v22) hostOps1_4 _ hostOps1_4_writes (by decide +kernel)]

/-- The left face's lines keep the flat codes and the values. -/
theorem kept_left : StableHlo.after hostOps1_11 (StableHlo.after hostOps1_10 (StableHlo.after hostOps1_9 (StableHlo.after hostOps1_8 W))) (Proc.devRef .tc main_v30) = W (Proc.devRef .tc main_v30)
    ∧ StableHlo.after hostOps1_11 (StableHlo.after hostOps1_10 (StableHlo.after hostOps1_9 (StableHlo.after hostOps1_8 W))) (Proc.devRef .tc main_v22) = W (Proc.devRef .tc main_v22) := by
  constructor
  · rw [StableHlo.after_of_writes_sub (r := main_v30) hostOps1_11 _ hostOps1_11_writes (by decide +kernel),
      StableHlo.after_of_writes_sub (r := main_v30) hostOps1_10 _ hostOps1_10_writes (by decide +kernel),
      StableHlo.after_of_writes_sub (r := main_v30) hostOps1_9 _ hostOps1_9_writes (by decide +kernel),
      StableHlo.after_of_writes_sub (r := main_v30) hostOps1_8 _ hostOps1_8_writes (by decide +kernel)]
  · rw [StableHlo.after_of_writes_sub (r := main_v22) hostOps1_11 _ hostOps1_11_writes (by decide +kernel),
      StableHlo.after_of_writes_sub (r := main_v22) hostOps1_10 _ hostOps1_10_writes (by decide +kernel),
      StableHlo.after_of_writes_sub (r := main_v22) hostOps1_9 _ hostOps1_9_writes (by decide +kernel),
      StableHlo.after_of_writes_sub (r := main_v22) hostOps1_8 _ hostOps1_8_writes (by decide +kernel)]

/-- The front face's image, off the codes and the values. -/
theorem front_tail : StableHlo.after hostOps1_4 (StableHlo.after hostOps1_3 (StableHlo.after hostOps1_2 (StableHlo.after hostOps1_1 (StableHlo.after hostOps1 W)))) (Proc.devRef .tc main_v59)
    = filed (rowsOf (shapeCast S1048576 (W (Proc.devRef .tc main_v29)) shapeCasts_S8192x128_S1048576) 0#32 4194304#32) (colsOf (shapeCast S1048576 (W (Proc.devRef .tc main_v29)) shapeCasts_S8192x128_S1048576) 0#32 4194304#32)
      (W (Proc.devRef .tc main_v22)) := by
  after_results
  rfl

/-- The back face's image, off the codes and the values. -/
theorem back_tail : StableHlo.after hostOps1_8 (StableHlo.after hostOps1_7 (StableHlo.after hostOps1_6 (StableHlo.after hostOps1_5 (StableHlo.after hostOps1_4 W)))) (Proc.devRef .tc main_v88)
    = filed (rowsOf (W (Proc.devRef .tc main_v30)) 4194304#32 8388608#32) (colsOf (W (Proc.devRef .tc main_v30)) 4194304#32 8388608#32)
      (W (Proc.devRef .tc main_v22)) := by
  after_results
  rfl

/-- The left face's image, off the codes and the values. -/
theorem left_tail : StableHlo.after hostOps1_12 (StableHlo.after hostOps1_11 (StableHlo.after hostOps1_10 (StableHlo.after hostOps1_9 (StableHlo.after hostOps1_8 W)))) (Proc.devRef .tc main_v117)
    = filed (rowsOf (W (Proc.devRef .tc main_v30)) 8388608#32 12582912#32) (colsOf (W (Proc.devRef .tc main_v30)) 8388608#32 12582912#32)
      (W (Proc.devRef .tc main_v22)) := by
  after_results
  rfl

/-- The right face's image, off the codes and the values. -/
theorem right_tail : StableHlo.after hostOps1_16 (StableHlo.after hostOps1_15 (StableHlo.after hostOps1_14 (StableHlo.after hostOps1_13 (StableHlo.after hostOps1_12 W)))) (Proc.devRef .tc main_v146)
    = filed (rowsOf (W (Proc.devRef .tc main_v30)) 12582912#32 16777216#32) (colsOf (W (Proc.devRef .tc main_v30)) 12582912#32 16777216#32)
      (W (Proc.devRef .tc main_v22)) := by
  after_results
  rfl

/-- The row of a number past the points. -/
theorem rows_past (x0 : (shape2 1000000 4).Idx → EReal) (x1 : (shape1 7).Idx → EReal) (f : Face) {n : ℕ} (h : ¬ n < 1000000) :
    rows x0 x1 f n = 2048#32 := dif_neg h

/-- The column of a number past the points. -/
theorem cols_past (x0 : (shape2 1000000 4).Idx → EReal) (x1 : (shape1 7).Idx → EReal) (f : Face) {n : ℕ} (h : ¬ n < 1000000) :
    cols x0 x1 f n = 2048#32 := dif_neg h

/-- The value at a place, by number. -/
def nth (v : S1048576.Idx → EReal) (n : ℕ) : EReal := if h : n < 1048576 then v (ix1 ⟨n, h⟩) else 0

/-- The value at a place's own number. -/
theorem nth_at (v : S1048576.Idx → EReal) (k : Fin 1048576) : nth v k.val = v (ix1 k) := dif_pos k.isLt

/-- Codes and values filed a face's way make the face's image, when each point's word is its code and each word past
    the points is the code of no face. -/
theorem filed_image (x0 : (shape2 1000000 4).Idx → EReal) (x1 : (shape1 7).Idx → EReal) {f : Face} {lo hi : BitVec 32} (hf : f.Block lo hi)
    (w : IVec S1048576 32) (v : S1048576.Idx → EReal)
    (hin : ∀ (k : Fin 1000000) (r : Fin 1048576), r.val = k.val → w (ix1 r) = code 1#1 (ptX x0 x1 k) (ptY x0 x1 k) (ptZ x0 x1 k))
    (hout : ∀ r : Fin 1048576, 1000000 ≤ r.val → ∃ x y z, w (ix1 r) = code 0#1 x y z)
    (hv : ∀ (k : Fin 1000000) (r : Fin 1048576), r.val = k.val → v (ix1 r) = x0 (ix2 k 3)) :
    filed (rowsOf w lo hi) (colsOf w lo hi) v = image x0 x1 f := by
  have key : ∀ r : Fin 1048576, rowsOf w lo hi (ix1 r) = rows x0 x1 f r.val ∧ colsOf w lo hi (ix1 r) = cols x0 x1 f r.val := by
    intro r
    have hr : rowsOf w lo hi (ix1 r) = decRow lo hi (w (ix1 r)) := rfl
    have hc : colsOf w lo hi (ix1 r) = decCol lo hi (w (ix1 r)) := rfl
    rw [hr, hc]
    by_cases h : r.val < 1000000
    · have d := hf.dec_one (ptX x0 x1 ⟨r.val, h⟩) (ptY x0 x1 ⟨r.val, h⟩) (ptZ x0 x1 ⟨r.val, h⟩)
      rw [hin ⟨r.val, h⟩ r rfl]
      exact ⟨d.1.trans (rows_at x0 x1 f ⟨r.val, h⟩).symm, d.2.trans (cols_at x0 x1 f ⟨r.val, h⟩).symm⟩
    · obtain ⟨x, y, z, e⟩ := hout r (not_lt.1 h)
      have d := hf.dec_zero x y z
      rw [e]
      exact ⟨d.1.trans (rows_past x0 x1 f h).symm, d.2.trans (cols_past x0 x1 f h).symm⟩
  funext i
  obtain ⟨p, q, rfl⟩ : ∃ (p q : Fin 2048), i = ix2 p q := ⟨i 0, i 1, eq_ix2 i⟩
  refine (face_image scatter_S2049x2049_S1048576x2_S1048576_n_01_01_1 rfl rfl rfl bcast_S1048576_S1048576x1_0
    concatenates_S1048576x1_S1048576x1_S1048576x2_d1 slices_S2049x2049_S2048x2048_0_0 _ (lit 0x00000000#32) (fun _ => rfl)
    (all 0#32) (all 2049#32) (all 0#32) (all 2049#32) (rowsOf w lo hi) (colsOf w lo hi) (fun _ => rfl) (fun _ => rfl) v
    (rows x0 x1 f) (cols x0 x1 f) (nth v)
    (fun k => (key k).1) (fun k => (key k).2) (fun k => (nth_at v k).symm) (rows_le x0 x1 hf.small) (cols_le x0 x1 hf.small) p q).trans ?_
  refine (paint_add (n := 1000000) (m := 48576) p.isLt fun k hk _ => rows_past x0 x1 f (not_lt.2 hk)).trans ?_
  refine paint_congr (fun _ _ => rfl) (fun _ _ => rfl) fun k hk => ?_
  have hk' : k < 1048576 := by omega
  rw [show nth v k = v (ix1 ⟨k, hk'⟩) from nth_at v ⟨k, hk'⟩, hv ⟨k, hk⟩ ⟨k, hk'⟩ rfl]
  exact (vals_at x0 ⟨k, hk⟩).symm

end Cert.Cube.Ker

end

end
-- ==== Proof.Finite.lean ====
/- What the precondition says of the arguments: no latitude is infinite. -/
module

public import proofs.«01_k».proof.Pre_finite_latitudes
public import proofs.«01_k».proof.Proof.RefPoint

@[expose] public section

noncomputable section

namespace Cert.Cube

open Idealize.ShloMosaic Idealize.ShloMosaic.ValueIdx Idealize.ShloMosaic.Routing

/-- The shape relations the precondition's operations take. -/
theorem preFacts : Cert.Pre_finite_latitudes.Facts where
  slices_S1000000x4_S1000000x1_0_0 := Cert.ReferenceIdeal.Gen.slices_S1000000x4_S1000000x1_0_0
  shapeCasts_S1000000x1_S1000000 := Cert.ReferenceIdeal.Gen.shapeCasts_S1000000x1_S1000000
  bcast_S_S1000000 := Cert.ReferenceIdeal.Gen.bcast_S_S1000000
  slices_S7_S1_0 := Cert.ReferenceIdeal.Gen.slices_S7_S1_0
  shapeCasts_S1_S_ := by decide

/-- The pattern of infinity reads as the top. -/
theorem lit_inf : lit 0x7F800000#32 = ⊤ := by
  simp [lit, Ideal.ofBits, Ideal.ieee]

/-- A number whose size compares below infinity is neither infinity. -/
theorem finite_of_cmp (x : EReal) (h : Ideal.cmp .olt (max x (-x)) (lit 0x7F800000#32) = 1#1) : x ≠ ⊤ ∧ x ≠ ⊥ := by
  rw [lit_inf] at h
  constructor
  · rintro rfl
    simp [Ideal.cmp] at h
  · rintro rfl
    simp [Ideal.cmp] at h

/-- Two bits whose conjunction is set are set. -/
theorem both_of_and : ∀ a b : BitVec 1, IntOp.andi a b = 1#1 → a = 1#1 ∧ b = 1#1 := by decide

/-- No latitude of the points, nor the camera's, is infinite. -/
def FiniteLat (x0 : (shape2 1000000 4).Idx → EReal) (x1 : (shape1 7).Idx → EReal) : Prop :=
  (∀ k, lat x0 k ≠ ⊤ ∧ lat x0 k ≠ ⊥) ∧ (camOf x1).lat ≠ ⊤ ∧ (camOf x1).lat ≠ ⊥

/-- The precondition says that no latitude is infinite. -/
theorem finite_of_pre [hp : Cert.Pre_finite_latitudes.Facts] (x0 : (shape2 1000000 4).Idx → EReal) (x1 : (shape1 7).Idx → EReal)
    (h : Cert.Pre_finite_latitudes.fn (F := Ideal) x0 x1 = fun _ => 1#1) : FiniteLat x0 x1 := by
  have key : ∀ k : Fin 1000000, (lat x0 k ≠ ⊤ ∧ lat x0 k ≠ ⊥) ∧ (camOf x1).lat ≠ ⊤ ∧ (camOf x1).lat ≠ ⊥ := by
    intro k
    have e := both_of_and _ _ (congrFun h (ix1 k))
    have c1 := Ref.column_at x0 0 (by decide) hp.slices_S1000000x4_S1000000x1_0_0 hp.shapeCasts_S1000000x1_S1000000 k
    have c2 := Ref.scalar_at x1 0 (by decide) hp.slices_S7_S1_0 hp.shapeCasts_S1_S_
    exact ⟨finite_of_cmp _ ((congrArg (fun y => Ideal.cmp .olt (max y (-y)) (lit 0x7F800000#32)) c1).symm.trans e.1),
      finite_of_cmp _ ((congrArg (fun y => Ideal.cmp .olt (max y (-y)) (lit 0x7F800000#32)) (c2 _)).symm.trans e.2)⟩
  exact ⟨fun k => (key k).1, (key 0).2⟩

end Cert.Cube

end

end
-- ==== Proof.KerEnd.lean ====
/- The kernel program's results: each face's image. -/
module

public import proofs.«01_k».proof.Proof.KerTail
public import proofs.«01_k».proof.Proof.Finite

@[expose] public section

set_option maxRecDepth 17888

noncomputable section

namespace Cert.Cube.Ker

open Idealize.ShloMosaic Idealize.ShloMosaic.ValueIdx Idealize.ShloMosaic.Routing Idealize.ShloMosaic.TcCoe Idealize.ShloMosaic.Tactic
open Idealize.ShloMosaic.Pipeline (Dat Cfg Window BodyObligation cellOf)
open Cert.KernelIdeal Cert.KernelIdeal.Gen Idealize.SL.Sem

/-- The lines after the kernel, in order. -/
abbrev tail : List (List (HloOp τ sig (Elt Ideal))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]

/-- The lines after the kernel run as their groups do, one after the other. -/
theorem tail_after (W : Valuation τ sig (Elt Ideal)) : StableHlo.after tail.flatten W
    = StableHlo.after hostOps1_16 (StableHlo.after hostOps1_15 (StableHlo.after hostOps1_14 (StableHlo.after hostOps1_13 (StableHlo.after hostOps1_12 (StableHlo.after hostOps1_11 (StableHlo.after hostOps1_10 (StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 W)))))))))))))))) := by
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil,
    StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append]

/-- An array of codes, laid out flat. -/
abbrev flatten (A : IVec S8192x128 32) : IVec S1048576 32 := shapeCast S1048576 A shapeCasts_S8192x128_S1048576

variable (W : Valuation τ sig (Elt Ideal))

/-- The front face's result, off the kernel's array of codes and the values. -/
theorem front_after : StableHlo.after tail.flatten W (Proc.devRef .tc main_v59)
    = filed (rowsOf (flatten (W (Proc.devRef .tc main_v29))) 0#32 4194304#32) (colsOf (flatten (W (Proc.devRef .tc main_v29))) 0#32 4194304#32) (W (Proc.devRef .tc main_v22)) := by
  rw [tail_after, StableHlo.after_of_writes_sub (r := main_v59) hostOps1_16 _ hostOps1_16_writes (by decide +kernel),
    StableHlo.after_of_writes_sub (r := main_v59) hostOps1_15 _ hostOps1_15_writes (by decide +kernel),
    StableHlo.after_of_writes_sub (r := main_v59) hostOps1_14 _ hostOps1_14_writes (by decide +kernel),
    StableHlo.after_of_writes_sub (r := main_v59) hostOps1_13 _ hostOps1_13_writes (by decide +kernel),
    StableHlo.after_of_writes_sub (r := main_v59) hostOps1_12 _ hostOps1_12_writes (by decide +kernel),
    StableHlo.after_of_writes_sub (r := main_v59) hostOps1_11 _ hostOps1_11_writes (by decide +kernel),
    StableHlo.after_of_writes_sub (r := main_v59) hostOps1_10 _ hostOps1_10_writes (by decide +kernel),
    StableHlo.after_of_writes_sub (r := main_v59) hostOps1_9 _ hostOps1_9_writes (by decide +kernel),
    StableHlo.after_of_writes_sub (r := main_v59) hostOps1_8 _ hostOps1_8_writes (by decide +kernel),
    StableHlo.after_of_writes_sub (r := main_v59) hostOps1_7 _ hostOps1_7_writes (by decide +kernel),
    StableHlo.after_of_writes_sub (r := main_v59) hostOps1_6 _ hostOps1_6_writes (by decide +kernel),
    StableHlo.after_of_writes_sub (r := main_v59) hostOps1_5 _ hostOps1_5_writes (by decide +kernel), front_tail]

/-- The back face's result, off the kernel's array of codes and the values. -/
theorem back_after : StableHlo.after tail.flatten W (Proc.devRef .tc main_v88)
    = filed (rowsOf (flatten (W (Proc.devRef .tc main_v29))) 4194304#32 8388608#32) (colsOf (flatten (W (Proc.devRef .tc main_v29))) 4194304#32 8388608#32) (W (Proc.devRef .tc main_v22)) := by
  rw [tail_after, StableHlo.after_of_writes_sub (r := main_v88) hostOps1_16 _ hostOps1_16_writes (by decide +kernel),
    StableHlo.after_of_writes_sub (r := main_v88) hostOps1_15 _ hostOps1_15_writes (by decide +kernel),
    StableHlo.after_of_writes_sub (r := main_v88) hostOps1_14 _ hostOps1_14_writes (by decide +kernel),
    StableHlo.after_of_writes_sub (r := main_v88) hostOps1_13 _ hostOps1_13_writes (by decide +kernel),
    StableHlo.after_of_writes_sub (r := main_v88) hostOps1_12 _ hostOps1_12_writes (by decide +kernel),
    StableHlo.after_of_writes_sub (r := main_v88) hostOps1_11 _ hostOps1_11_writes (by decide +kernel),
    StableHlo.after_of_writes_sub (r := main_v88) hostOps1_10 _ hostOps1_10_writes (by decide +kernel),
    StableHlo.after_of_writes_sub (r := main_v88) hostOps1_9 _ hostOps1_9_writes (by decide +kernel), back_tail, (kept_front _).1, flat, (kept_front _).2, kept_val]

/-- The left face's result, off the kernel's array of codes and the values. -/
theorem left_after : StableHlo.after tail.flatten W (Proc.devRef .tc main_v117)
    = filed (rowsOf (flatten (W (Proc.devRef .tc main_v29))) 8388608#32 12582912#32) (colsOf (flatten (W (Proc.devRef .tc main_v29))) 8388608#32 12582912#32) (W (Proc.devRef .tc main_v22)) := by
  rw [tail_after, StableHlo.after_of_writes_sub (r := main_v117) hostOps1_16 _ hostOps1_16_writes (by decide +kernel),
    StableHlo.after_of_writes_sub (r := main_v117) hostOps1_15 _ hostOps1_15_writes (by decide +kernel),
    StableHlo.after_of_writes_sub (r := main_v117) hostOps1_14 _ hostOps1_14_writes (by decide +kernel),
    StableHlo.after_of_writes_sub (r := main_v117) hostOps1_13 _ hostOps1_13_writes (by decide +kernel), left_tail, (kept_back _).1, (kept_front _).1, flat, (kept_back _).2, (kept_front _).2, kept_val]

/-- The right face's result, off the kernel's array of codes and the values. -/
theorem right_after : StableHlo.after tail.flatten W (Proc.devRef .tc main_v146)
    = filed (rowsOf (flatten (W (Proc.devRef .tc main_v29))) 12582912#32 16777216#32) (colsOf (flatten (W (Proc.devRef .tc main_v29))) 12582912#32 16777216#32) (W (Proc.devRef .tc main_v22)) := by
  rw [tail_after, right_tail, (kept_left _).1, (kept_back _).1, (kept_front _).1, flat, (kept_left _).2, (kept_back _).2, (kept_front _).2, kept_val]

/-- An array of codes of the points, filed a face's way with the points' values, makes the face's image. -/
theorem coded_image (x0 : (shape2 1000000 4).Idx → EReal) (x1 : (shape1 7).Idx → EReal) (hx : FiniteLat x0 x1)
    (A : IVec S8192x128 32) (k : Cam) (a0 a1 a2 : S8192x128.Idx → EReal) (v : S1048576.Idx → EReal)
    (hA : ∀ i : S8192x128.Idx, Coded k (a0 i) (a1 i) (a2 i) ((i 0).val * 128 + (i 1).val) (A i)) (hk : k = camOf x1)
    (h0 : ∀ (n : Fin 1000000) (p : Fin 8192) (q : Fin 128), n.val = p.val * 128 + q.val → a0 (ix2 p q) = x0 (ix2 n 0))
    (h1 : ∀ (n : Fin 1000000) (p : Fin 8192) (q : Fin 128), n.val = p.val * 128 + q.val → a1 (ix2 p q) = x0 (ix2 n 1))
    (h2 : ∀ (n : Fin 1000000) (p : Fin 8192) (q : Fin 128), n.val = p.val * 128 + q.val → a2 (ix2 p q) = x0 (ix2 n 2))
    (hv : ∀ (n : Fin 1000000) (r : Fin 1048576), r.val = n.val → v (ix1 r) = x0 (ix2 n 3))
    {f : Face} {lo hi : BitVec 32} (hf : f.Block lo hi) :
    filed (rowsOf (flatten A) lo hi) (colsOf (flatten A) lo hi) v = image x0 x1 f := by
  have at_ : ∀ r : Fin 1048576, ∃ (p : Fin 8192) (q : Fin 128), r.val = p.val * 128 + q.val ∧ flatten A (ix1 r) = A (ix2 p q) := by
    intro r
    have hr := r.isLt
    have e : r.val = r.val / 128 * 128 + r.val % 128 := by omega
    exact ⟨⟨r.val / 128, by omega⟩, ⟨r.val % 128, by omega⟩, e, cast21 A _ _ _ r e⟩
  subst hk
  refine filed_image x0 x1 hf (flatten A) v (fun n r hr => ?_) (fun r hr => ?_) hv
  · obtain ⟨p, q, e, ea⟩ := at_ r
    have hn := n.isLt
    have hc := (hA (ix2 p q)).1 (by show p.val * 128 + q.val < 1000000; omega)
    rw [h0 n p q (by omega), h1 n p q (by omega), h2 n p q (by omega)] at hc
    rw [ea]
    exact hc (hx.1 n).1 (hx.1 n).2 hx.2.1 hx.2.2
  · obtain ⟨p, q, e, ea⟩ := at_ r
    rw [ea]
    exact (hA (ix2 p q)).2 (by show 1000000 ≤ p.val * 128 + q.val; omega)

variable (m : (ℓ : Loc nD τ sig) → Buf (Elt Ideal) ℓ)

/-- The windows' arrays are different buffers. -/
theorem arr_inj : Function.Injective (Pipeline.arrRef spec0) := by decide

/-- What the kernel leaves, filed a face's way with the values, is the face's image. -/
theorem leaves_image (c : Dev nD) (hx : FiniteLat (m ((c : Thread nD τ).loc main_arg0)) (m ((c : Thread nD τ).loc main_arg1)))
    {f : Face} {lo hi : BitVec 32} (hf : f.Block lo hi) :
    filed (rowsOf (flatten ((dats m 0 c).arrAt 5 cfg0.N)) lo hi) (colsOf (flatten ((dats m 0 c).arrAt 5 cfg0.N)) lo hi) (V m c main_v22)
      = image (m ((c : Thread nD τ).loc main_arg0)) (m ((c : Thread nD τ).loc main_arg1)) f :=
  coded_image _ _ hx _ _ _ _ _ _ (arr_coded m c (V_num m c _)) (cam_eq m c) (V_lat_at m c) (V_lon_at m c) (V_alt_at m c) (V_val_at m c) hf

/-- What the lines after the kernel start from. -/
abbrev exitV (c : Dev nD) : Valuation τ sig (Elt Ideal) :=
  Pipeline.withArrays spec0 c (V0 m c) fun w => (dats m 0 c).arrAt w cfg0.N

/-- They find the kernel's array of codes. -/
theorem exit_codes (c : Dev nD) : exitV m c (Proc.devRef .tc main_v29) = (dats m 0 c).arrAt 5 cfg0.N :=
  Pipeline.withArrays_arr spec0 arr_inj c (V0 m c) (fun w => (dats m 0 c).arrAt w cfg0.N) 5

/-- They find the values. -/
theorem exit_vals (c : Dev nD) : exitV m c (Proc.devRef .tc main_v22) = V m c main_v22 :=
  Pipeline.withArrays_of_ne _ c (V0 m c) _ main_v22 (by exact (by decide : ∀ w, Pipeline.arrRef spec0 w ≠ main_v22))

variable (c : Dev nD) (hx : FiniteLat (m ((c : Thread nD τ).loc main_arg0)) (m ((c : Thread nD τ).loc main_arg1)))
include hx

/-- The front face's result is its image. -/
theorem front_end : Pipeline.afterTail₀ cfgs (dats m) 0 (V0 m) tail c main_v59
    = image (m ((c : Thread nD τ).loc main_arg0)) (m ((c : Thread nD τ).loc main_arg1)) front := by
  refine (front_after (exitV m c)).trans ?_
  rw [exit_codes, exit_vals]
  exact leaves_image m c hx front_block

/-- The back face's result is its image. -/
theorem back_end : Pipeline.afterTail₀ cfgs (dats m) 0 (V0 m) tail c main_v88
    = image (m ((c : Thread nD τ).loc main_arg0)) (m ((c : Thread nD τ).loc main_arg1)) back := by
  refine (back_after (exitV m c)).trans ?_
  rw [exit_codes, exit_vals]
  exact leaves_image m c hx back_block

/-- The left face's result is its image. -/
theorem left_end : Pipeline.afterTail₀ cfgs (dats m) 0 (V0 m) tail c main_v117
    = image (m ((c : Thread nD τ).loc main_arg0)) (m ((c : Thread nD τ).loc main_arg1)) left := by
  refine (left_after (exitV m c)).trans ?_
  rw [exit_codes, exit_vals]
  exact leaves_image m c hx left_block

/-- The right face's result is its image. -/
theorem right_end : Pipeline.afterTail₀ cfgs (dats m) 0 (V0 m) tail c main_v146
    = image (m ((c : Thread nD τ).loc main_arg0)) (m ((c : Thread nD τ).loc main_arg1)) right := by
  refine (right_after (exitV m c)).trans ?_
  rw [exit_codes, exit_vals]
  exact leaves_image m c hx right_block

end Cert.Cube.Ker

end

end
-- ==== Proof.lean ====
/- The claims: the kernel program and its ideal form run and keep their arguments, the reference does, and over the
   extended reals kernel and reference leave the same four images when no latitude is infinite. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Kern.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefImage
public import proofs.«01_k».proof.Proof.KerEnd
public import Idealize.ShloMosaic.Adequacy
public import Idealize.ShloMosaic.Init

@[expose] public section

noncomputable section

namespace Cert.Proof

open Idealize.ShloMosaic Idealize.SL.Sem

/-- The kernel program at the ideal instance runs, leaves each face's image in its results and keeps its arguments. -/
theorem kernel_run (m : (ℓ : Loc Cert.KernelIdeal.nD Cert.KernelIdeal.τ Cert.KernelIdeal.sig) → Buf (Elt Ideal) ℓ)
    (g : Dev Cert.KernelIdeal.nD → PrngReg)
    (hx : ∀ c : Dev Cert.KernelIdeal.nD, Cube.FiniteLat (m ((c.tc : Thread Cert.KernelIdeal.nD Cert.KernelIdeal.τ).loc Cert.KernelIdeal.main_arg0))
      (m ((c.tc : Thread Cert.KernelIdeal.nD Cert.KernelIdeal.τ).loc Cert.KernelIdeal.main_arg1))) :
    θ_run (Cert.KernelIdeal.defs (F := Ideal)) (onTc (τ := Cert.KernelIdeal.τ) (Cert.KernelIdeal.main (F := Ideal))) ⟨m, fun _ => 0, g⟩ (fun r =>
      ∀ c : Dev Cert.KernelIdeal.nD,
        let x0 := m ((c.tc : Thread Cert.KernelIdeal.nD Cert.KernelIdeal.τ).loc Cert.KernelIdeal.main_arg0)
        let x1 := m ((c.tc : Thread Cert.KernelIdeal.nD Cert.KernelIdeal.τ).loc Cert.KernelIdeal.main_arg1)
        r.2.mem ((c.tc : Thread Cert.KernelIdeal.nD Cert.KernelIdeal.τ).loc Cert.KernelIdeal.main_v59) = Cube.image x0 x1 Cube.front
        ∧ r.2.mem ((c.tc : Thread Cert.KernelIdeal.nD Cert.KernelIdeal.τ).loc Cert.KernelIdeal.main_v88) = Cube.image x0 x1 Cube.back
        ∧ r.2.mem ((c.tc : Thread Cert.KernelIdeal.nD Cert.KernelIdeal.τ).loc Cert.KernelIdeal.main_v117) = Cube.image x0 x1 Cube.left
        ∧ r.2.mem ((c.tc : Thread Cert.KernelIdeal.nD Cert.KernelIdeal.τ).loc Cert.KernelIdeal.main_v146) = Cube.image x0 x1 Cube.right
        ∧ r.2.mem ((c.tc : Thread Cert.KernelIdeal.nD Cert.KernelIdeal.τ).loc Cert.KernelIdeal.main_arg0) = x0
        ∧ r.2.mem ((c.tc : Thread Cert.KernelIdeal.nD Cert.KernelIdeal.τ).loc Cert.KernelIdeal.main_arg1) = x1) :=
  (θ_run _ _ _).mono (fun _ h c =>
    ⟨((h.1 c).2 _ (Pipeline.mem_restRefs_of Cert.KernelIdeal.main_v59 (by decide) (by decide))).trans (Cube.Ker.front_end m c (hx c)),
      ((h.1 c).2 _ (Pipeline.mem_restRefs_of Cert.KernelIdeal.main_v88 (by decide) (by decide))).trans (Cube.Ker.back_end m c (hx c)),
      ((h.1 c).2 _ (Pipeline.mem_restRefs_of Cert.KernelIdeal.main_v117 (by decide) (by decide))).trans (Cube.Ker.left_end m c (hx c)),
      ((h.1 c).2 _ (Pipeline.mem_restRefs_of Cert.KernelIdeal.main_v146 (by decide) (by decide))).trans (Cube.Ker.right_end m c (hx c)),
      (h.2 c).1, (h.2 c).2⟩)
    (θ_run_and (Cert.KernelIdeal.Gen.run_main m g) (Cert.KernelIdeal.Gen.unchanged m g))

/-- The reference program at the ideal instance runs, leaves each face's image in its results and keeps its arguments. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      ∀ c : Dev Cert.ReferenceIdeal.nD,
        let x0 := m ((c.tc : Thread Cert.ReferenceIdeal.nD Cert.ReferenceIdeal.τ).loc Cert.ReferenceIdeal.main_arg0)
        let x1 := m ((c.tc : Thread Cert.ReferenceIdeal.nD Cert.ReferenceIdeal.τ).loc Cert.ReferenceIdeal.main_arg1)
        r.2.mem ((c.tc : Thread Cert.ReferenceIdeal.nD Cert.ReferenceIdeal.τ).loc Cert.ReferenceIdeal.main_v297) = Cube.image x0 x1 Cube.front
        ∧ r.2.mem ((c.tc : Thread Cert.ReferenceIdeal.nD Cert.ReferenceIdeal.τ).loc Cert.ReferenceIdeal.main_v321) = Cube.image x0 x1 Cube.back
        ∧ r.2.mem ((c.tc : Thread Cert.ReferenceIdeal.nD Cert.ReferenceIdeal.τ).loc Cert.ReferenceIdeal.main_v369) = Cube.image x0 x1 Cube.left
        ∧ r.2.mem ((c.tc : Thread Cert.ReferenceIdeal.nD Cert.ReferenceIdeal.τ).loc Cert.ReferenceIdeal.main_v345) = Cube.image x0 x1 Cube.right
        ∧ r.2.mem ((c.tc : Thread Cert.ReferenceIdeal.nD Cert.ReferenceIdeal.τ).loc Cert.ReferenceIdeal.main_arg0) = x0
        ∧ r.2.mem ((c.tc : Thread Cert.ReferenceIdeal.nD Cert.ReferenceIdeal.τ).loc Cert.ReferenceIdeal.main_arg1) = x1) :=
  (θ_run _ _ _).mono (fun _ h c =>
    ⟨((h c).1.trans (Cert.ReferenceIdeal.Read.val_main_v297_eq _)).trans (Cube.Ref.front_result _ _),
      ((h c).2.1.trans (Cert.ReferenceIdeal.Read.val_main_v321_eq _)).trans (Cube.Ref.back_result _ _),
      ((h c).2.2.1.trans (Cert.ReferenceIdeal.Read.val_main_v369_eq _)).trans (Cube.Ref.left_result _ _),
      ((h c).2.2.2.1.trans (Cert.ReferenceIdeal.Read.val_main_v345_eq _)).trans (Cube.Ref.right_result _ _),
      (h c).2.2.2.2.1, (h c).2.2.2.2.2⟩)
    (Cert.ReferenceIdeal.Value.run m g)

/-- The reference program at the ideal instance runs, keeps its arguments and, having no semaphore, ends with none raised. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
      ∧ r.2.sem = fun _ => 0) :=
  (θ_run _ _ _).mono (fun r h => ⟨fun c => (h c).2.2.2.2, sem_eq_zero_of_no_sems (by decide) r.2⟩) (reference_run m g)

/-- Both programs leave the same images, when no latitude is infinite. -/
theorem same_images : Cert.algebraic_KernelIdeal_ReferenceIdeal_pre_finite_latitudes (hPre_finite_latitudes := Cube.preFacts) := by
  intro m g m' g' hpre hagree
  haveI := Cube.preFacts
  refine ⟨_, _, _, _, kernel_run m g fun c => Cube.finite_of_pre _ _ (hpre c), (θ_run _ _ _).mono (fun _ h c => ?_) (reference_run m' g')⟩
  have e := h c
  dsimp only at e
  rw [(hagree c).1, (hagree c).2] at e
  rw [(hagree c).1, (hagree c).2]
  exact e

/-- The certificate's claims. -/
theorem claim : Cert.Claim := ⟨Cert.Kernel.Gen.facts, Cert.KernelIdeal.Gen.facts, Cert.ReferenceIdeal.Gen.facts, Cube.preFacts,
  fun m g _ => Cert.Kernel.Gen.frame m g, fun m g _ => Cert.KernelIdeal.Gen.frame m g, fun m g _ => Cert.KernelIdeal.Gen.frame m g,
  fun m g _ => reference_frame m g, fun m g _ => reference_frame m g, trivial, same_images⟩

end Cert.Proof

end
